-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.block ⟨3, ![2, 4096, 512]⟩ ⟨3, ![2, 4096, 4096]⟩ 2 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 512]⟩ ⟨2, ![128, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 512]⟩ ⟨2, ![128, 4096]⟩ 1 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 4096, 512]⟩ ⟨3, ![2, 4096, 4096]⟩ 2 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S2x4096x512 : Shape := ⟨3, ![2, 4096, 512]⟩
abbrev S2x128 : Shape := ⟨2, ![2, 128]⟩
abbrev S128x512 : Shape := ⟨2, ![128, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel

variable [Facts]

def fn {F : FTy → Type} [FloatOps F] (main_arg0 : FVec F S2x4096x512 .f32) (main_arg1 : FVec F S2x128 .f32) (main_arg2 : FVec F S128x512 .f32) (main_arg3 : FVec F S128x512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  main_v3
-- ==== Pre_x_finite_ReferenceIdeal.lean ====
abbrev S2x4096x4096 : Shape := ⟨3, ![2, 4096, 4096]⟩
abbrev S2x128 : Shape := ⟨2, ![2, 128]⟩
abbrev S128x4096 : Shape := ⟨2, ![128, 4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel

variable [Facts]

def fn {F : FTy → Type} [FloatOps F] (main_arg0 : FVec F S2x4096x4096 .f32) (main_arg1 : FVec F S2x128 .f32) (main_arg2 : FVec F S128x4096 .f32) (main_arg3 : FVec F S128x4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  main_v3
-- ==== Kernel.lean ====
abbrev S2x4096x512 : Shape := ⟨3, ![2, 4096, 512]⟩
abbrev S2x128 : Shape := ⟨2, ![2, 128]⟩
abbrev S128x512 : Shape := ⟨2, ![128, 512]⟩
abbrev S8x4x4096 : Shape := ⟨3, ![8, 4, 4096]⟩
abbrev S8 : Shape := ⟨1, ![8]⟩
abbrev S7 : Shape := ⟨1, ![7]⟩
abbrev S_ : Shape := ⟨0, ![]⟩
abbrev S1 : Shape := ⟨1, ![1]⟩
abbrev S2x512x512 : Shape := ⟨3, ![2, 512, 512]⟩
abbrev S2x512 : Shape := ⟨2, ![2, 512]⟩
abbrev S1x2x512 : Shape := ⟨3, ![1, 2, 512]⟩
abbrev S1x4x4096 : Shape := ⟨3, ![1, 4, 4096]⟩
abbrev S4x4096 : Shape := ⟨2, ![4, 4096]⟩
abbrev S2x4096 : Shape := ⟨2, ![2, 4096]⟩
abbrev S2x512x1 : Shape := ⟨3, ![2, 512, 1]⟩
abbrev S2x1x512 : Shape := ⟨3, ![2, 1, 512]⟩

abbrev nBuf : Space → Nat
  | .hbm => 5
  | .vmem => 6
  | .smem => 0
  | _ => 0

abbrev bufTy : (tb : Table) → Fin (tcTables nBuf tb) → BufTy
  | .hbm, ⟨0, _⟩ => ⟨S2x4096x512, .f32⟩
  | .hbm, ⟨1, _⟩ => ⟨S2x128, .f32⟩
  | .hbm, ⟨2, _⟩ => ⟨S128x512, .f32⟩
  | .hbm, ⟨3, _⟩ => ⟨S128x512, .f32⟩
  | .hbm, ⟨4, _⟩ => ⟨S2x4096x512, .bf16⟩
  | .local _ .vmem, ⟨0, _⟩ => ⟨S2x128, .f32⟩
  | .local _ .vmem, ⟨1, _⟩ => ⟨S128x512, .f32⟩
  | .local _ .vmem, ⟨2, _⟩ => ⟨S128x512, .f32⟩
  | .local _ .vmem, ⟨3, _⟩ => ⟨S2x4096x512, .f32⟩
  | .local _ .vmem, ⟨4, _⟩ => ⟨S2x4096x512, .bf16⟩
  | .local _ .vmem, ⟨5, _⟩ => ⟨S8x4x4096, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v142 : Index := Scalar.indexCast v2
  let c0_129 : Index := 0#32
  let c0_130 : Index := 0#32
  ![v142.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v149 : Index := Scalar.indexCast v2
  let c2 : Index := 2#32
  let c0_132 : Index := 0#32
  ![v149.toNat, 2, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v160 : Index := Scalar.indexCast v2
  let c0_143 : Index := 0#32
  let c512_144 : Index := 512#32
  ![v160.toNat, 0, 512]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v167 : Index := Scalar.indexCast v2
  let c2_146 : Index := 2#32
  let c512_147 : Index := 512#32
  ![v167.toNat, 2, 512]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v178 : Index := Scalar.indexCast v2
  let c0_158 : Index := 0#32
  let c1024_159 : Index := 1024#32
  ![v178.toNat, 0, 1024]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v185 : Index := Scalar.indexCast v2
  let c2_161 : Index := 2#32
  let c1024_162 : Index := 1024#32
  ![v185.toNat, 2, 1024]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v196 : Index := Scalar.indexCast v2
  let c0_173 : Index := 0#32
  let c1536_174 : Index := 1536#32
  ![v196.toNat, 0, 1536]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v203 : Index := Scalar.indexCast v2
  let c2_176 : Index := 2#32
  let c1536_177 : Index := 1536#32
  ![v203.toNat, 2, 1536]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v214 : Index := Scalar.indexCast v2
  let c0_188 : Index := 0#32
  let c2048_189 : Index := 2048#32
  ![v214.toNat, 0, 2048]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v221 : Index := Scalar.indexCast v2
  let c2_191 : Index := 2#32
  let c2048_192 : Index := 2048#32
  ![v221.toNat, 2, 2048]
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v232 : Index := Scalar.indexCast v2
  let c0_203 : Index := 0#32
  let c2560_204 : Index := 2560#32
  ![v232.toNat, 0, 2560]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v239 : Index := Scalar.indexCast v2
  let c2_206 : Index := 2#32
  let c2560_207 : Index := 2560#32
  ![v239.toNat, 2, 2560]
def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v250 : Index := Scalar.indexCast v2
  let c0_218 : Index := 0#32
  let c3072_219 : Index := 3072#32
  ![v250.toNat, 0, 3072]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v257 : Index := Scalar.indexCast v2
  let c2_221 : Index := 2#32
  let c3072_222 : Index := 3072#32
  ![v257.toNat, 2, 3072]
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v268 : Index := Scalar.indexCast v2
  let c0_233 : Index := 0#32
  let c3584_234 : Index := 3584#32
  ![v268.toNat, 0, 3584]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v275 : Index := Scalar.indexCast v2
  let c2_236 : Index := 2#32
  let c3584_237 : Index := 3584#32
  ![v275.toNat, 2, 3584]
def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_250 : BitVec 32 := 0#32
  let c0_i32_251 : BitVec 32 := 0#32
  ![v2.toNat, 0, 0]
def k0_dev8 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_239 : BitVec 32 := 1#32
  let v279 : BitVec 32 := Scalar.addi v2 c1_i32_239
  let c8_i32_240 : BitVec 32 := 8#32
  let c0_i32_241 : BitVec 32 := 0#32
  let v280 : BitVec 1 := Scalar.cmpi .eq c8_i32_240 c0_i32_241
  let c1_i32_242 : BitVec 32 := 1#32
  let v281 : BitVec 32 := Scalar.select v280 c1_i32_242 c8_i32_240
  let v282 : BitVec 32 := Scalar.remsi v279 v281
  let c0_i32_244 : BitVec 32 := 0#32
  let v284 : BitVec 1 := Scalar.cmpi .slt v282 c0_i32_244
  let c0_i32_245 : BitVec 32 := 0#32
  let v285 : BitVec 1 := Scalar.cmpi .slt v281 c0_i32_245
  let v286 : BitVec 1 := Scalar.xori v284 v285
  let c0_i32_243 : BitVec 32 := 0#32
  let v283 : BitVec 1 := Scalar.cmpi .ne v282 c0_i32_243
  let v287 : BitVec 1 := Scalar.andi v286 v283
  let v288 : BitVec 32 := Scalar.addi v282 v281
  let v289 : BitVec 32 := Scalar.select v287 v288 v282
  let c1_i32_248 : BitVec 32 := 1#32
  let v290 : BitVec 32 := Scalar.muli v289 c1_i32_248
  let v291 : BitVec 32 := Scalar.addi c0_i32_249 v290
  v291.toNat
def k0_dev9 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_254 : BitVec 32 := 2#32
  let v298 : BitVec 32 := Scalar.addi v2 c2_i32_254
  let c8_i32_255 : BitVec 32 := 8#32
  let c0_i32_256 : BitVec 32 := 0#32
  let v299 : BitVec 1 := Scalar.cmpi .eq c8_i32_255 c0_i32_256
  let c1_i32_257 : BitVec 32 := 1#32
  let v300 : BitVec 32 := Scalar.select v299 c1_i32_257 c8_i32_255
  let v301 : BitVec 32 := Scalar.remsi v298 v300
  let c0_i32_259 : BitVec 32 := 0#32
  let v303 : BitVec 1 := Scalar.cmpi .slt v301 c0_i32_259
  let c0_i32_260 : BitVec 32 := 0#32
  let v304 : BitVec 1 := Scalar.cmpi .slt v300 c0_i32_260
  let v305 : BitVec 1 := Scalar.xori v303 v304
  let c0_i32_258 : BitVec 32 := 0#32
  let v302 : BitVec 1 := Scalar.cmpi .ne v301 c0_i32_258
  let v306 : BitVec 1 := Scalar.andi v305 v302
  let v307 : BitVec 32 := Scalar.addi v301 v300
  let v308 : BitVec 32 := Scalar.select v306 v307 v301
  let c1_i32_263 : BitVec 32 := 1#32
  let v309 : BitVec 32 := Scalar.muli v308 c1_i32_263
  let v310 : BitVec 32 := Scalar.addi c0_i32_264 v309
  v310.toNat
def k0_dev10 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_269 : BitVec 32 := 3#32
  let v317 : BitVec 32 := Scalar.addi v2 c3_i32_269
  let c8_i32_270 : BitVec 32 := 8#32
  let c0_i32_271 : BitVec 32 := 0#32
  let v318 : BitVec 1 := Scalar.cmpi .eq c8_i32_270 c0_i32_271
  let c1_i32_272 : BitVec 32 := 1#32
  let v319 : BitVec 32 := Scalar.select v318 c1_i32_272 c8_i32_270
  let v320 : BitVec 32 := Scalar.remsi v317 v319
  let c0_i32_274 : BitVec 32 := 0#32
  let v322 : BitVec 1 := Scalar.cmpi .slt v320 c0_i32_274
  let c0_i32_275 : BitVec 32 := 0#32
  let v323 : BitVec 1 := Scalar.cmpi .slt v319 c0_i32_275
  let v324 : BitVec 1 := Scalar.xori v322 v323
  let c0_i32_273 : BitVec 32 := 0#32
  let v321 : BitVec 1 := Scalar.cmpi .ne v320 c0_i32_273
  let v325 : BitVec 1 := Scalar.andi v324 v321
  let v326 : BitVec 32 := Scalar.addi v320 v319
  let v327 : BitVec 32 := Scalar.select v325 v326 v320
  let c1_i32_278 : BitVec 32 := 1#32
  let v328 : BitVec 32 := Scalar.muli v327 c1_i32_278
  let v329 : BitVec 32 := Scalar.addi c0_i32_279 v328
  v329.toNat
def k0_dev11 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_284 : BitVec 32 := 4#32
  let v336 : BitVec 32 := Scalar.addi v2 c4_i32_284
  let c8_i32_285 : BitVec 32 := 8#32
  let c0_i32_286 : BitVec 32 := 0#32
  let v337 : BitVec 1 := Scalar.cmpi .eq c8_i32_285 c0_i32_286
  let c1_i32_287 : BitVec 32 := 1#32
  let v338 : BitVec 32 := Scalar.select v337 c1_i32_287 c8_i32_285
  let v339 : BitVec 32 := Scalar.remsi v336 v338
  let c0_i32_289 : BitVec 32 := 0#32
  let v341 : BitVec 1 := Scalar.cmpi .slt v339 c0_i32_289
  let c0_i32_290 : BitVec 32 := 0#32
  let v342 : BitVec 1 := Scalar.cmpi .slt v338 c0_i32_290
  let v343 : BitVec 1 := Scalar.xori v341 v342
  let c0_i32_288 : BitVec 32 := 0#32
  let v340 : BitVec 1 := Scalar.cmpi .ne v339 c0_i32_288
  let v344 : BitVec 1 := Scalar.andi v343 v340
  let v345 : BitVec 32 := Scalar.addi v339 v338
  let v346 : BitVec 32 := Scalar.select v344 v345 v339
  let c1_i32_293 : BitVec 32 := 1#32
  let v347 : BitVec 32 := Scalar.muli v346 c1_i32_293
  let v348 : BitVec 32 := Scalar.addi c0_i32_294 v347
  v348.toNat
def k0_dev12 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_299 : BitVec 32 := 5#32
  let v355 : BitVec 32 := Scalar.addi v2 c5_i32_299
  let c8_i32_300 : BitVec 32 := 8#32
  let c0_i32_301 : BitVec 32 := 0#32
  let v356 : BitVec 1 := Scalar.cmpi .eq c8_i32_300 c0_i32_301
  let c1_i32_302 : BitVec 32 := 1#32
  let v357 : BitVec 32 := Scalar.select v356 c1_i32_302 c8_i32_300
  let v358 : BitVec 32 := Scalar.remsi v355 v357
  let c0_i32_304 : BitVec 32 := 0#32
  let v360 : BitVec 1 := Scalar.cmpi .slt v358 c0_i32_304
  let c0_i32_305 : BitVec 32 := 0#32
  let v361 : BitVec 1 := Scalar.cmpi .slt v357 c0_i32_305
  let v362 : BitVec 1 := Scalar.xori v360 v361
  let c0_i32_303 : BitVec 32 := 0#32
  let v359 : BitVec 1 := Scalar.cmpi .ne v358 c0_i32_303
  let v363 : BitVec 1 := Scalar.andi v362 v359
  let v364 : BitVec 32 := Scalar.addi v358 v357
  let v365 : BitVec 32 := Scalar.select v363 v364 v358
  let c1_i32_308 : BitVec 32 := 1#32
  let v366 : BitVec 32 := Scalar.muli v365 c1_i32_308
  let v367 : BitVec 32 := Scalar.addi c0_i32_309 v366
  v367.toNat
def k0_dev13 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_314 : BitVec 32 := 6#32
  let v374 : BitVec 32 := Scalar.addi v2 c6_i32_314
  let c8_i32_315 : BitVec 32 := 8#32
  let c0_i32_316 : BitVec 32 := 0#32
  let v375 : BitVec 1 := Scalar.cmpi .eq c8_i32_315 c0_i32_316
  let c1_i32_317 : BitVec 32 := 1#32
  let v376 : BitVec 32 := Scalar.select v375 c1_i32_317 c8_i32_315
  let v377 : BitVec 32 := Scalar.remsi v374 v376
  let c0_i32_319 : BitVec 32 := 0#32
  let v379 : BitVec 1 := Scalar.cmpi .slt v377 c0_i32_319
  let c0_i32_320 : BitVec 32 := 0#32
  let v380 : BitVec 1 := Scalar.cmpi .slt v376 c0_i32_320
  let v381 : BitVec 1 := Scalar.xori v379 v380
  let c0_i32_318 : BitVec 32 := 0#32
  let v378 : BitVec 1 := Scalar.cmpi .ne v377 c0_i32_318
  let v382 : BitVec 1 := Scalar.andi v381 v378
  let v383 : BitVec 32 := Scalar.addi v377 v376
  let v384 : BitVec 32 := Scalar.select v382 v383 v377
  let c1_i32_323 : BitVec 32 := 1#32
  let v385 : BitVec 32 := Scalar.muli v384 c1_i32_323
  let v386 : BitVec 32 := Scalar.addi c0_i32_324 v385
  v386.toNat
def k0_dev14 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_329 : BitVec 32 := 7#32
  let v393 : BitVec 32 := Scalar.addi v2 c7_i32_329
  let c8_i32_330 : BitVec 32 := 8#32
  let c0_i32_331 : BitVec 32 := 0#32
  let v394 : BitVec 1 := Scalar.cmpi .eq c8_i32_330 c0_i32_331
  let c1_i32_332 : BitVec 32 := 1#32
  let v395 : BitVec 32 := Scalar.select v394 c1_i32_332 c8_i32_330
  let v396 : BitVec 32 := Scalar.remsi v393 v395
  let c0_i32_334 : BitVec 32 := 0#32
  let v398 : BitVec 1 := Scalar.cmpi .slt v396 c0_i32_334
  let c0_i32_335 : BitVec 32 := 0#32
  let v399 : BitVec 1 := Scalar.cmpi .slt v395 c0_i32_335
  let v400 : BitVec 1 := Scalar.xori v398 v399
  let c0_i32_333 : BitVec 32 := 0#32
  let v397 : BitVec 1 := Scalar.cmpi .ne v396 c0_i32_333
  let v401 : BitVec 1 := Scalar.andi v400 v397
  let v402 : BitVec 32 := Scalar.addi v396 v395
  let v403 : BitVec 32 := Scalar.select v401 v402 v396
  let c1_i32_338 : BitVec 32 := 1#32
  let v404 : BitVec 32 := Scalar.muli v403 c1_i32_338
  let v405 : BitVec 32 := Scalar.addi c0_i32_339 v404
  v405.toNat
abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x4096x4096 : Shape := ⟨3, ![2, 4096, 4096]⟩
abbrev S2x128 : Shape := ⟨2, ![2, 128]⟩
abbrev S128x4096 : Shape := ⟨2, ![128, 4096]⟩
abbrev S_ : Shape := ⟨0, ![]⟩
abbrev S2x4096 : Shape := ⟨2, ![2, 4096]⟩
abbrev S2x4096x1 : Shape := ⟨3, ![2, 4096, 1]⟩
abbrev S2x1x4096 : Shape := ⟨3, ![2, 1, 4096]⟩

abbrev nBuf : Space → Nat
  | .hbm => 54
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x128, .f32⟩
  | .hbm, ⟨2, _⟩ => ⟨S128x4096, .f32⟩
  | .hbm, ⟨3, _⟩ => ⟨S128x4096, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .i32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x4096, .f32⟩
  | .hbm, ⟨18, _⟩ => ⟨S2x4096x4096, .f32⟩
  | .hbm, ⟨19, _⟩ => ⟨S2x4096x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S2x4096x1, .f32⟩
  | .hbm, ⟨27, _⟩ => ⟨S2x4096x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x4096, .f32⟩
  | .hbm, ⟨35, _⟩ => ⟨S2x4096x4096, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x1, .f32⟩
  | .hbm, ⟨40, _⟩ => ⟨S2x4096x4096, .f32⟩
  | .hbm, ⟨41, _⟩ => ⟨S2x4096x4096, .f32⟩
  | .hbm, ⟨42, _⟩ => ⟨S2x4096, .f32⟩
  | .hbm, ⟨43, _⟩ => ⟨S2x4096, .f32⟩
  | .hbm, ⟨44, _⟩ => ⟨S2x1x4096, .f32⟩
  | .hbm, ⟨45, _⟩ => ⟨S_, .f32⟩
  | .hbm, ⟨46, _⟩ => ⟨S2x1x4096, .f32⟩
  | .hbm, ⟨47, _⟩ => ⟨S2x1x4096, .f32⟩
  | .hbm, ⟨48, _⟩ => ⟨S2x4096x4096, .f32⟩
  | .hbm, ⟨49, _⟩ => ⟨S2x4096x4096, .f32⟩
  | .hbm, ⟨50, _⟩ => ⟨S2x1x4096, .f32⟩
  | .hbm, ⟨51, _⟩ => ⟨S2x4096x4096, .f32⟩
  | .hbm, ⟨52, _⟩ => ⟨S2x4096x4096, .f32⟩
  | .hbm, ⟨53, _⟩ => ⟨S2x4096x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩

abbrev nD : Nat := 1
abbrev τ : Topo := Topo.v7x

variable {F : FTy → Type} [FloatOps F]
-- ==== Proof.Protocol.lean ====
/-
  The exchange among the eight devices, written down once for a symbolic device `c`: who signals whom, who copies
  what into whose buffer, and what each hand-over is worth.

  Every device keeps a table `stats` of eight slots, one per device, each of four rows (two of sums, two of sums of
  squares). Device `c` fills slot `c` from its own block of `x` and copies that slot into slot `c` of each of the seven
  others. For `k` in `0 … 6` the peer `pl c k` is the device `k + 1` places after `c`, and `mi c k` the one `k + 1` places
  before it.

  * The barrier cell of `c` expects seven units in its one round, one from each peer. Unit `k` is paid by `pl c k`, and hands
    `c` the slot `c` of `pl c k`'s table, whatever it holds: the place `c` is about to write. Device `c` waits for all seven
    before its first copy.
  * Send cell `k` of `c` is paid by the departure of `c`'s copy to `pl c k`, and hands back the share of `c`'s own slot which
    the copy read.
  * Receive cell `k` of `c` is paid by the arrival of the copy from `mi c k`, and hands `c` its slot `mi c k`, holding the
    statistics of device `mi c k`.

  A device owes, from the start, its seven barrier units and the credit of its seven arrivals. Barrier cells stand at level
  one and receive cells at level two; everything else stands at zero.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the pipeline's rounds, this exchange's, whose duties are named by `Fin 7`, and the counters of local copies -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds sit beside the counters in the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-! ## The peers -/

set_option backward.proofsInPublic true in
/-- The device `k + 1` places after `c`. -/
def pl (c : Dev nD) (k : Fin 7) : Dev nD := ⟨(c.val + k.val + 1) % 8, Nat.mod_lt _ (by decide)⟩
set_option backward.proofsInPublic true in
/-- The device `k + 1` places before `c`. -/
def mi (c : Dev nD) (k : Fin 7) : Dev nD := ⟨(c.val + 7 - k.val) % 8, Nat.mod_lt _ (by decide)⟩
set_option backward.proofsInPublic true in
/-- `k`'s mirror: `c` is the device `op k + 1` places after `pl c k`. -/
def op (k : Fin 7) : Fin 7 := ⟨6 - k.val, by omega⟩

theorem mi_pl (c : Dev nD) (k : Fin 7) : mi (pl c k) k = c := by revert c k; decide
theorem pl_mi (c : Dev nD) (k : Fin 7) : pl (mi c k) k = c := by revert c k; decide
theorem pl_pl (c : Dev nD) (k : Fin 7) : pl (pl c k) (op k) = c := by revert c k; decide
theorem op_op (k : Fin 7) : op (op k) = k := by revert k; decide

/-- The devices the seven signals address … -/
theorem sig_dev0 (c : Dev nD) : (⟨k0_dev1 c, k0_dev1_lt c⟩ : Dev nD) = pl c 0 := by revert c; decide +kernel
theorem sig_dev1 (c : Dev nD) : (⟨k0_dev2 c, k0_dev2_lt c⟩ : Dev nD) = pl c 1 := by revert c; decide +kernel
theorem sig_dev2 (c : Dev nD) : (⟨k0_dev3 c, k0_dev3_lt c⟩ : Dev nD) = pl c 2 := by revert c; decide +kernel
theorem sig_dev3 (c : Dev nD) : (⟨k0_dev4 c, k0_dev4_lt c⟩ : Dev nD) = pl c 3 := by revert c; decide +kernel
theorem sig_dev4 (c : Dev nD) : (⟨k0_dev5 c, k0_dev5_lt c⟩ : Dev nD) = pl c 4 := by revert c; decide +kernel
theorem sig_dev5 (c : Dev nD) : (⟨k0_dev6 c, k0_dev6_lt c⟩ : Dev nD) = pl c 5 := by revert c; decide +kernel
theorem sig_dev6 (c : Dev nD) : (⟨k0_dev7 c, k0_dev7_lt c⟩ : Dev nD) = pl c 6 := by revert c; decide +kernel
/-- … and the seven copies. -/
theorem cpy_dev0 (c : Dev nD) : (⟨k0_dev8 c, k0_dev8_lt c⟩ : Dev nD) = pl c 0 := by revert c; decide +kernel
theorem cpy_dev1 (c : Dev nD) : (⟨k0_dev9 c, k0_dev9_lt c⟩ : Dev nD) = pl c 1 := by revert c; decide +kernel
theorem cpy_dev2 (c : Dev nD) : (⟨k0_dev10 c, k0_dev10_lt c⟩ : Dev nD) = pl c 2 := by revert c; decide +kernel
theorem cpy_dev3 (c : Dev nD) : (⟨k0_dev11 c, k0_dev11_lt c⟩ : Dev nD) = pl c 3 := by revert c; decide +kernel
theorem cpy_dev4 (c : Dev nD) : (⟨k0_dev12 c, k0_dev12_lt c⟩ : Dev nD) = pl c 4 := by revert c; decide +kernel
theorem cpy_dev5 (c : Dev nD) : (⟨k0_dev13 c, k0_dev13_lt c⟩ : Dev nD) = pl c 5 := by revert c; decide +kernel
theorem cpy_dev6 (c : Dev nD) : (⟨k0_dev14 c, k0_dev14_lt c⟩ : Dev nD) = pl c 6 := by revert c; decide +kernel

/-! ## Buffers and semaphores -/

abbrev xM : Memref sig .tc .hbm S2x4096x512 .f32 := Memref.whole main_arg0
abbrev oM : Memref sig .tc .hbm S2x4096x512 .bf16 := Memref.whole main_v1
abbrev tM : Memref sig .tc .vmem S2x128 .f32 := Memref.whole cc0_stg0_0
abbrev wcM : Memref sig .tc .vmem S128x512 .f32 := Memref.whole cc0_stg1_0
abbrev wsM : Memref sig .tc .vmem S128x512 .f32 := Memref.whole cc0_stg2_0
abbrev xvM : Memref sig .tc .vmem S2x4096x512 .f32 := Memref.whole cc0_scratch0
abbrev ovM : Memref sig .tc .vmem S2x4096x512 .bf16 := Memref.whole cc0_scratch1
abbrev stM : Memref sig .tc .vmem S8x4x4096 .f32 := Memref.whole cc0_scratch2

/-- Slot `d` of the table of statistics. -/
abbrev slotM (d : Dev nD) : Memref sig .tc .vmem S1x4x4096 .f32 :=
  stM.slice (Rect.unit (s := S8x4x4096) (k0_off17 d) S1x4x4096.size (k0_off17_inb d)) (fun _ => rfl)

abbrev barS : Sem sig := (SemArray.scalar (sig.barrier 0 rfl) : Sems sig S_).sem

theorem inb7 (k : Fin 7) : ∀ a, (![k.val] : Fin 1 → Nat) a + S1.size a ≤ S7.size a := by revert k; decide
theorem inb8 (j : Fin 8) : ∀ a, (![j.val] : Fin 1 → Nat) a + S1.size a ≤ S8.size a := by revert j; decide

set_option backward.proofsInPublic true in
/-- Semaphore `k` of the send, the receive, the load and the write-back arrays. -/
def sendA (k : Fin 7) : DmaSems sig S_ := (cc0_scratch5.slice (Rect.unit (s := S7) ![k.val] S1.size (inb7 k))).squeeze S_ squeezes_S1_S_
set_option backward.proofsInPublic true in
def recvA (k : Fin 7) : DmaSems sig S_ := (cc0_scratch6.slice (Rect.unit (s := S7) ![k.val] S1.size (inb7 k))).squeeze S_ squeezes_S1_S_
set_option backward.proofsInPublic true in
def inA (j : Fin 8) : DmaSems sig S_ := (cc0_scratch3.slice (Rect.unit (s := S8) ![j.val] S1.size (inb8 j))).squeeze S_ squeezes_S1_S_
set_option backward.proofsInPublic true in
def outA (j : Fin 8) : DmaSems sig S_ := (cc0_scratch4.slice (Rect.unit (s := S8) ![j.val] S1.size (inb8 j))).squeeze S_ squeezes_S1_S_

abbrev sendS (k : Fin 7) : DmaSem sig := (sendA k).sem
abbrev recvS (k : Fin 7) : DmaSem sig := (recvA k).sem
abbrev inS (j : Fin 8) : DmaSem sig := (inA j).sem
abbrev outS (j : Fin 8) : DmaSem sig := (outA j).sem

/-- The kernel's own spelling of each semaphore. -/
theorem sendA_eq (k : Fin 7) (n : ℕ) (hn : n = k.val) (h) :
    (cc0_scratch5.slice (Rect.unit (s := S7) ![n] S1.size h)).squeeze S_ squeezes_S1_S_ = sendA k := by subst hn; rfl
theorem recvA_eq (k : Fin 7) (n : ℕ) (hn : n = k.val) (h) :
    (cc0_scratch6.slice (Rect.unit (s := S7) ![n] S1.size h)).squeeze S_ squeezes_S1_S_ = recvA k := by subst hn; rfl
theorem inA_eq (j : Fin 8) (n : ℕ) (hn : n = j.val) (h) :
    (cc0_scratch3.slice (Rect.unit (s := S8) ![n] S1.size h)).squeeze S_ squeezes_S1_S_ = inA j := by subst hn; rfl
theorem outA_eq (j : Fin 8) (n : ℕ) (hn : n = j.val) (h) :
    (cc0_scratch4.slice (Rect.unit (s := S8) ![n] S1.size h)).squeeze S_ squeezes_S1_S_ = outA j := by subst hn; rfl

theorem sendS_val (k : Fin 7) : (sendS k).val = 19 + k.val := by revert k; decide
theorem recvS_val (k : Fin 7) : (recvS k).val = 26 + k.val := by revert k; decide
theorem inS_val (j : Fin 8) : (inS j).val = 3 + j.val := by revert j; decide
theorem outS_val (j : Fin 8) : (outS j).val = 11 + j.val := by revert j; decide

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

/-- The credit of one copied slot of 4 rows of 4096 entries. -/
abbrev N : ℕ := 2048
theorem slot_credit (d : Dev nD) : (slotM d).view.dmaCredit = N := rfl
theorem N_pos : 0 < N := by decide

/-! ## What the table of statistics comes to hold -/

theorem rows_inb (j : Fin 8) : ∀ a, (![0, 512 * j.val, 0] : Fin 3 → Nat) a + S2x512x512.size a ≤ S2x4096x512.size a := by revert j; decide
/-- Rows `512 j … 512 j + 511` of a block: the rectangle the `j`-th chunk is. -/
abbrev rowsR (j : Fin 8) : Rect S2x4096x512 := Rect.unit (s := S2x4096x512) ![0, 512 * j.val, 0] S2x512x512.size (rows_inb j)

/-- Device `d`'s block of `x`. -/
abbrev xOf (d : Dev nD) : Buf (Elt F) ((d : Thread nD τ).loc main_arg0) := m ((d : Thread nD τ).loc main_arg0)
/-- Its `j`-th chunk of 512 rows. -/
def chunk (d : Dev nD) (j : Fin 8) : Vec F S2x512x512 .f32 := (xM.slice (rowsR j) (fun _ => rfl)).view.read (Elt F) (xOf m d)

/-- The chunk which position `s` along the rows falls in. -/
def chunkOf (s : ℕ) : Fin 8 := ⟨s / 512 % 8, Nat.mod_lt _ (by decide)⟩

set_option backward.proofsInPublic true in
/-- The position of an entry of the table inside the window of two rows and 512 columns around it. -/
def inWin (i : S8x4x4096.Idx) : S1x2x512.Idx := fun
  | 0 => ⟨0, by decide⟩ | 1 => ⟨(i 1).val % 2, Nat.mod_lt _ (by decide)⟩ | 2 => ⟨(i 2).val % 512, Nat.mod_lt _ (by decide)⟩

/-- The table of statistics: in slot `d`, rows 0 and 1 hold device `d`'s sums over its channels of each position of `x`, rows 2
    and 3 the sums of squares. -/
def stats : (cc0_scratch2 : Ref sig .tc).ty.Contents (Elt F) := fun i : S8x4x4096.Idx =>
  if (i 1).val < 2 then
    k0_pay4 (chunk m ⟨(i 0).val, (i 0).isLt⟩ (chunkOf (i 2).val)) (inWin i)
  else
    k0_pay5 (chunk m ⟨(i 0).val, (i 0).isLt⟩ (chunkOf (i 2).val)) (inWin i)

/-! ## The schedule -/

/-- The share of its own slot that device `c` lends to the `k`-th copy. -/
def lent (k : Fin 7) : PosShare TreeShare := Transfers.dealOf fullShare Finset.univ k

/-- Slot `d` of the table of device `c`, at contents `f`. -/
abbrev slotPts (c d : Dev nD) (q : PosShare TreeShare) (f : (cc0_scratch2 : Ref sig .tc).ty.Contents (Elt F)) : sProp 𝕄 :=
  (slotM d).view.loc (c : Thread nD τ) ↦[(slotM d).view.set]{q} f

/-- What the unit `k` on `c`'s barrier hands over: the slot `c` of the peer's table. -/
def barPay (c : Dev nD) (k : Fin 7) : sProp 𝕄 := iprop(∃ f, slotPts (F := F) (pl c k) c fullShare f)
/-- What the departure of the `k`-th copy hands back: the share of its own slot. -/
def sendPay (c : Dev nD) (k : Fin 7) : sProp 𝕄 := slotPts c c (lent k) (stats m)
/-- What the `k`-th arrival hands over: the slot of the device it came from, filled. -/
def recvPay (c : Dev nD) (k : Fin 7) : sProp 𝕄 := slotPts c (mi c k) fullShare (stats m)

omit [FloatOps F] in
instance barPay_storable (c : Dev nD) (k : Fin 7) : BI.Storable (upEmb : UEmb _ 𝕄) (barPay (F := F) c k) := by unfold barPay; infer_instance
instance sendPay_storable (c : Dev nD) (k : Fin 7) : BI.Storable (upEmb : UEmb _ 𝕄) (sendPay (F := F) m c k) := by unfold sendPay; infer_instance
instance recvPay_storable (c : Dev nD) (k : Fin 7) : BI.Storable (upEmb : UEmb _ 𝕄) (recvPay (F := F) m c k) := by unfold recvPay; infer_instance

abbrev IsSend (q : DmaSem sig) : Prop := 19 ≤ q.val ∧ q.val < 26
abbrev IsRecv (q : DmaSem sig) : Prop := 26 ≤ q.val

/-- Which of the seven a send or receive semaphore is. -/
def ixOf (n : ℕ) : Fin 7 := ⟨n % 7, Nat.mod_lt _ (by decide)⟩

/-- One round: seven duties of one unit on a barrier cell, one duty of a slot's credit on a send or a receive cell. -/
def sched : Rounds.Schedule (GSem nD τ sig) (Fin 7) 𝕄 where
  duties g r := if r = 0 ∧ g.1.2 = .tc then
      (match g.2 with
        | .reg _ => Finset.univ
        | .dma q => if IsSend q ∨ IsRecv q then {0} else ∅)
    else ∅
  unitless _ := False
  amount g _ _ := match g.2 with | .reg _ => 1 | .dma _ => N
  payload g _ d := match g.2 with
    | .reg _ => barPay g.1.1 d
    | .dma q => if IsSend q then sendPay m g.1.1 (ixOf (q.val - 19)) else if IsRecv q then recvPay m g.1.1 (ixOf (q.val - 26)) else iprop(emp)
  amount_pos g _ _ _ := by
    cases g.2
    · exact Nat.one_pos
    · exact N_pos

instance sched_payload_storable (g : GSem nD τ sig) (r : ℕ) (d : Fin 7) :
    BI.Storable (upEmb : UEmb _ 𝕄) ((sched (F := F) m).payload g r d) := by
  dsimp only [sched]
  cases g.2
  · infer_instance
  · (repeat' split) <;> infer_instance

section Tables
variable (c : Dev nD) (k : Fin 7)

theorem isSend_sendS : IsSend (sendS k) := by revert k; decide
theorem isRecv_recvS : IsRecv (recvS k) := by revert k; decide
theorem not_isSend_recvS : ¬ IsSend (recvS k) := by revert k; decide
theorem not_isRecv_sendS : ¬ IsRecv (sendS k) := by revert k; decide
theorem ixOf_sendS : ixOf ((sendS k).val - 19) = k := by revert k; decide
theorem ixOf_recvS : ixOf ((recvS k).val - 26) = k := by revert k; decide

theorem duties_bar : (sched (F := F) m).duties (barCell c) 0 = Finset.univ := by dsimp only [sched]; exact if_pos ⟨rfl, rfl⟩
theorem duties_send : (sched (F := F) m).duties (sendCell c k) 0 = {0} := by
  dsimp only [sched]; rw [if_pos ⟨rfl, rfl⟩]; exact if_pos (.inl (isSend_sendS k))
theorem duties_recv : (sched (F := F) m).duties (recvCell c k) 0 = {0} := by
  dsimp only [sched]; rw [if_pos ⟨rfl, rfl⟩]; exact if_pos (.inr (isRecv_recvS k))
theorem duties_later (g : GSem nD τ sig) : ∀ r, 1 ≤ r → (sched (F := F) m).duties g r = ∅ :=
  fun r hr => by dsimp only [sched]; rw [if_neg fun h => by omega]

theorem mem_bar (d : Fin 7) : d ∈ (sched (F := F) m).duties (barCell c) 0 := by rw [duties_bar]; exact Finset.mem_univ _
theorem mem_send : (0 : Fin 7) ∈ (sched (F := F) m).duties (sendCell c k) 0 := by rw [duties_send]; exact Finset.mem_singleton_self _
theorem mem_recv : (0 : Fin 7) ∈ (sched (F := F) m).duties (recvCell c k) 0 := by rw [duties_recv]; exact Finset.mem_singleton_self _

theorem amount_bar (d : Fin 7) : (sched (F := F) m).amount (barCell c) 0 d = 1 := rfl
theorem amount_send (d : Fin 7) : (sched (F := F) m).amount (sendCell c k) 0 d = N := rfl
theorem amount_recv (d : Fin 7) : (sched (F := F) m).amount (recvCell c k) 0 d = N := rfl

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c k) 0 = N := by
  unfold Schedule.expect Schedule.amountOf; rw [duties_send, Finset.sum_singleton, amount_send]
theorem expect_recv : (sched (F := F) m).expect (recvCell c k) 0 = N := by
  unfold Schedule.expect Schedule.amountOf; rw [duties_recv, Finset.sum_singleton, amount_recv]

theorem payload_bar (d : Fin 7) : (sched (F := F) m).payload (barCell c) 0 d = barPay c d := rfl
theorem payload_send (d : Fin 7) : (sched (F := F) m).payload (sendCell c k) 0 d = sendPay m c k := by
  dsimp only [sched]; rw [if_pos (isSend_sendS k), ixOf_sendS]
theorem payload_recv (d : Fin 7) : (sched (F := F) m).payload (recvCell c k) 0 d = recvPay m c k := by
  dsimp only [sched]; rw [if_neg (not_isSend_recvS k), if_pos (isRecv_recvS k), ixOf_recvS]

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- All that the barrier's round hands over: the seven peers' slots. -/
theorem rest_bar : bigSep ((sched (F := F) m).duties (barCell c) 0 \ ∅) (fun d => (sched (F := F) m).payload (barCell c) 0 d)
    = bigSep Finset.univ fun k : Fin 7 => barPay c k := by
  rw [Finset.sdiff_empty, duties_bar]; rfl
theorem rest_send : bigSep ((sched (F := F) m).duties (sendCell c k) 0 \ ∅) (fun d => (sched (F := F) m).payload (sendCell c k) 0 d) = sendPay m c k := by
  rw [Finset.sdiff_empty, duties_send, bigSep_singleton, payload_send]
theorem rest_recv : bigSep ((sched (F := F) m).duties (recvCell c k) 0 \ ∅) (fun d => (sched (F := F) m).payload (recvCell c k) 0 d) = recvPay m c k := by
  rw [Finset.sdiff_empty, duties_recv, bigSep_singleton, payload_recv]

end Tables

/-! ## What a device owes, and the levels -/

/-- The credit of the seven arrivals device `c` causes. -/
def owedArr (c : Dev nD) : CellTallies nD τ sig Unit := ∑ k : Fin 7, tallyAt (recvCell (pl c k) k) () N
/-- The seven barrier units. -/
def owedBar (c : Dev nD) : CellTallies nD τ sig Unit := ∑ k : Fin 7, tallyAt (barCell (pl c k)) () 1
def owed (c : Dev nD) : CellTallies nD τ sig Unit := owedArr c + owedBar c

def L (g : GSem nD τ sig) : Finset Unit := if g.1.2 = .tc then {()} else ∅
def lv (g : GSem nD τ sig) (_ : Unit) : ℕ := match g.2 with | .reg _ => 1 | .dma q => if IsRecv q then 2 else 0

theorem L_of_ne (g : GSem nD τ sig) (h : g.1.2 ≠ .tc) : L g = ∅ := if_neg h
theorem L_tc (c : Dev nD) (sm : SemLoc sig) : L ((c : Thread nD τ), sm) = {()} := if_pos rfl

/-- A sum of tallies is positive only at one of their cells. -/
theorem sum_tally_pos {n : ℕ} (g : Fin n → GSem nD τ sig) (a : ℕ) {h : GSem nD τ sig} {u : Unit}
    (hp : 0 < (∑ k, tallyAt (g k) () a : CellTallies nD τ sig Unit) h u) : ∃ k, h = g k := by
  by_contra hn
  refine Nat.lt_irrefl 0 (lt_of_lt_of_eq hp ?_)
  rw [Finset.sum_apply, Finsupp.finset_sum_apply]
  exact Finset.sum_eq_zero fun k _ => by
    rw [tallyAt_apply, if_neg fun h' => hn ⟨k, h'.1⟩]

theorem owedArr_pos {c : Dev nD} {g : GSem nD τ sig} {u : Unit} (h : 0 < owedArr c g u) : ∃ k, g = recvCell (pl c k) k :=
  sum_tally_pos _ _ h
theorem owed_pos {c : Dev nD} {g : GSem nD τ sig} {u : Unit} (h : 0 < owed c g u) :
    (∃ k, g = recvCell (pl c k) k) ∨ ∃ k, g = barCell (pl c k) := by
  unfold owed at h
  rw [Pi.add_apply, Finsupp.add_apply] at h
  rcases Nat.eq_zero_or_pos (owedArr c g u) with h0 | h0
  · exact .inr (sum_tally_pos _ _ (by rw [h0, Nat.zero_add] at h; exact h))
  · exact .inl (owedArr_pos h0)

theorem lv_recv (c : Dev nD) (k : Fin 7) (u : Unit) : lv (recvCell c k) u = 2 := if_pos (isRecv_recvS k)

/-- A wait on a semaphore of level zero is in order while the device owes everything, … -/
theorem mayWait_zero_all (c : Dev nD) (q : DmaSem sig) (hq : ¬ IsRecv q) :
    (levAts L lv : sProp 𝕄) ⊢ MayWait (c : Thread nD τ) (.dma q) () (owed c) :=
  MayOwe.of_cut (L := L) (lev := lv) 0 (fun p hp => by rw [Finset.mem_singleton.mp hp, L_tc]; exact Finset.mem_singleton_self _)
    (fun g u hg => by rcases owed_pos hg with ⟨k, rfl⟩ | ⟨k, rfl⟩ <;> exact Finset.mem_singleton_self _)
    (fun p hp => by rw [Finset.mem_singleton.mp hp]; exact le_of_eq (if_neg hq))
    (fun g u hg => by
      rcases owed_pos hg with ⟨k, rfl⟩ | ⟨k, rfl⟩
      · rw [lv_recv]; decide
      · exact Nat.one_pos)

/-- … or the arrivals only. -/
theorem mayWait_zero_arr (c : Dev nD) (q : DmaSem sig) (hq : ¬ IsRecv q) :
    (levAts L lv : sProp 𝕄) ⊢ MayWait (c : Thread nD τ) (.dma q) () (owedArr c) :=
  MayOwe.of_cut (L := L) (lev := lv) 0 (fun p hp => by rw [Finset.mem_singleton.mp hp, L_tc]; exact Finset.mem_singleton_self _)
    (fun g u hg => by obtain ⟨k, rfl⟩ := owedArr_pos hg; exact Finset.mem_singleton_self _)
    (fun p hp => by rw [Finset.mem_singleton.mp hp]; exact le_of_eq (if_neg hq))
    (fun g u hg => by obtain ⟨k, rfl⟩ := owedArr_pos hg; rw [lv_recv]; decide)

/-- The barrier's wait is in order while the device owes the arrivals. -/
theorem mayWait_bar (c : Dev nD) :
    (levAts L lv : sProp 𝕄) ⊢ MayWait (c : Thread nD τ) (.reg barS) () (owedArr c) :=
  MayOwe.of_cut (L := L) (lev := lv) 1 (fun p hp => by rw [Finset.mem_singleton.mp hp, L_tc]; exact Finset.mem_singleton_self _)
    (fun g u hg => by obtain ⟨k, rfl⟩ := owedArr_pos hg; exact Finset.mem_singleton_self _)
    (fun p hp => by rw [Finset.mem_singleton.mp hp]; exact le_of_eq rfl)
    (fun g u hg => by obtain ⟨k, rfl⟩ := owedArr_pos hg; rw [lv_recv]; decide)

end Cert.Exchange

end
-- ==== Proof.Ghost.lean ====
/-
  What device `c`'s body starts from: the invariants of the cells it touches, its positions and its duties.
-/
module

public import proofs.«01_k».proof.Proof.Protocol

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A device's fifteen cells: its barrier, its seven send and its seven receive cells. -/
abbrev CI : Type := Unit ⊕ (Fin 7 ⊕ Fin 7)
abbrev bI : CI := .inl ()
abbrev sI (k : Fin 7) : CI := .inr (.inl k)
abbrev rI (k : Fin 7) : CI := .inr (.inr k)
/-- The semaphore of each. -/
def csem : CI → SemLoc sig
  | .inl _ => .reg barS
  | .inr (.inl k) => .dma (sendS k)
  | .inr (.inr k) => .dma (recvS k)
abbrev kcell (x : Dev nD × CI) : GSem nD τ sig := ((x.1 : Thread nD τ), csem x.2)

/-- The invariant of one cell, under its name. -/
abbrev inv (K : Dev nD × CI → ℕ) (x : Dev nD × CI) : sProp 𝕄 := cellInv ER (sched m) (K x) (kcell x)

/-- All invariants, and that every cell is at its first round. -/
def records (K : Dev nD × CI → ℕ) : sProp 𝕄 :=
  iprop((bigSep Finset.univ fun x => inv m K x) ∗ bigSep Finset.univ fun x : Dev nD × CI => reached ER (kcell x) 0)

instance records_persistent (K : Dev nD × CI → ℕ) : BI.Persistent (records (F := F) m K) := by unfold records; infer_instance

theorem records_inv (K : Dev nD × CI → ℕ) (x : Dev nD × CI) : records m K ⊢ cellInv ER (sched m) (K x) (kcell x) :=
  sep_elim_left.trans (bigSep_elim (Finset.mem_univ x))
theorem records_reached (K : Dev nD × CI → ℕ) (x : Dev nD × CI) : records (F := F) m K ⊢ reached ER (kcell x) 0 :=
  sep_elim_right.trans (bigSep_elim (Finset.mem_univ x))

/-- The device's own positions and the duties it pays: a barrier unit to each peer, its own departures, the arrivals it causes. -/
def linear (c : Dev nD) : sProp 𝕄 :=
  iprop(atPos ER (barCell c) 0 ∅ 0
    ∗ (bigSep Finset.univ fun k : Fin 7 => atPos ER (sendCell c k) 0 ∅ 0)
    ∗ (bigSep Finset.univ fun k : Fin 7 => atPos ER (recvCell c k) 0 ∅ 0)
    ∗ (bigSep Finset.univ fun k : Fin 7 => dutyTok ER (barCell (pl c k)) 0 (op k))
    ∗ (bigSep Finset.univ fun k : Fin 7 => dutyTok ER (sendCell c k) 0 0)
    ∗ (bigSep Finset.univ fun k : Fin 7 => dutyTok ER (recvCell (pl c k) k) 0 0))

end Cert.Exchange

end
-- ==== Proof.Contents.lean ====
/-
  What the buffers come to hold: a chunk read back after its copy, and the sixteen windows stored into a device's slot.
-/
module

public import proofs.«01_k».proof.Proof.Ghost
public import Idealize.ShloMosaic.Lib.Pipeline.Value

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A chunk of the block's shape, read back from the buffer it was copied into. -/
theorem load_copied {e : EltTy} {sp : Space} (M : Memref sig .tc sp S2x4096x512 e) {off : Fin 3 → ℕ}
    (h : ∀ a, off a + S2x512x512.size a ≤ S2x4096x512.size a) (hr) (g : M.view.ty.Contents (Elt F)) (x : S2x512x512.Idx → Elt F e) :
    View.readAt (Elt F) M.view (Rect.unit (s := S2x4096x512) off S2x512x512.size h).toLoadRect
      ((M.slice (Rect.unit (s := S2x4096x512) off S2x512x512.size h) hr).view.writes (Elt F) g [⟨Rect.whole _, x⟩]) = x :=
  View.read_writes_whole (Val := Elt F) (M.slice (Rect.unit (s := S2x4096x512) off S2x512x512.size h) hr).view g x

/-- One store of a window of two rows and 512 columns into the table. -/
abbrev wr (c : Dev nD) (off : Fin 3 → ℕ) (h : ∀ a, off a + S1x2x512.size a ≤ S8x4x4096.size a)
    (f : (cc0_scratch2 : Ref sig .tc).ty.Contents (Elt F)) (w : Vec F S1x2x512 .f32) : (cc0_scratch2 : Ref sig .tc).ty.Contents (Elt F) :=
  View.write (Elt F) (stM.access (Rect.unit (s := S8x4x4096) off S1x2x512.size h)) f w Finset.univ

/-- In slot `c`, a window at rows `r, r + 1` and columns `512 j …` changes exactly its own entries. -/
theorem wr_apply (c : Dev nD) (r j : ℕ) (off : Fin 3 → ℕ) (hoff : off = ![c.val, r, 512 * j]) (h)
    (f : (cc0_scratch2 : Ref sig .tc).ty.Contents (Elt F)) (w : Vec F S1x2x512 .f32) (i : S8x4x4096.Idx) (hi : (i 0).val = c.val) (hr : r % 2 = 0) :
    wr (F := F) c off h f w i = if r ≤ (i 1).val ∧ (i 1).val < r + 2 ∧ (i 2).val / 512 = j then w (inWin i) else f i := by
  subst hoff
  show View.write (Elt F) ((View.whole cc0_scratch2).slice (Rect.unit (s := S8x4x4096) ![c.val, r, 512 * j] S1x2x512.size h)) f w Finset.univ i = _
  rw [View.write_whole_slice_unit (Val := Elt F) cc0_scratch2 ![c.val, r, 512 * j] S1x2x512.size h f w]
  unfold updateSlice
  by_cases hc : r ≤ (i 1).val ∧ (i 1).val < r + 2 ∧ (i 2).val / 512 = j
  · rw [if_pos hc]
    have hin : ∀ a : Fin 3, (![c.val, r, 512 * j] : Fin 3 → ℕ) a ≤ (i a).val ∧ (i a).val < (![c.val, r, 512 * j] : Fin 3 → ℕ) a + S1x2x512.size a := by
      intro a
      match a with
      | 0 => exact ⟨hi.ge, by show (i 0).val < c.val + 1; omega⟩
      | 1 => exact ⟨hc.1, hc.2.1⟩
      | 2 => exact ⟨by show 512 * j ≤ (i 2).val; omega, by show (i 2).val < 512 * j + 512; omega⟩
    refine (dif_pos hin).trans (congrArg w (funext fun a => Fin.ext ?_))
    match a with
    | 0 => show (i 0).val - c.val = 0; omega
    | 1 => show (i 1).val - r = (i 1).val % 2; omega
    | 2 => show (i 2).val - 512 * j = (i 2).val % 512; omega
  · rw [if_neg hc]
    refine dif_neg fun hin => ?_
    have h1 : r ≤ (i 1).val ∧ (i 1).val < r + 2 := hin 1
    have h2 : 512 * j ≤ (i 2).val ∧ (i 2).val < 512 * j + 512 := hin 2
    exact hc ⟨h1.1, h1.2, by omega⟩

/-- The entries of slot `d`. -/
theorem mem_slot (d : Dev nD) (i : S8x4x4096.Idx) : i ∈ (slotM d).view.set ↔ (i 0).val = d.val := by
  show i ∈ ((View.whole cc0_scratch2).slice (Rect.unit (s := S8x4x4096) (k0_off17 d) S1x4x4096.size (k0_off17_inb d))).set ↔ _
  rw [View.set_slice, Finset.mem_map]
  constructor
  · rintro ⟨j, hj, rfl⟩
    have := (Rect.mem_set_unit (inb := k0_off17_inb d)).mp hj 0
    rw [k0_off17_eq] at this
    have h : d.val ≤ (j 0).val ∧ (j 0).val < d.val + 1 := this
    show (j 0).val = d.val
    omega
  · intro h
    refine ⟨i, (Rect.mem_set_unit (inb := k0_off17_inb d)).mpr fun a => ?_, rfl⟩
    rw [k0_off17_eq]
    match a with
    | 0 => exact ⟨h.ge, by show (i 0).val < d.val + 1; omega⟩
    | 1 => exact ⟨Nat.zero_le _, by show (i 1).val < 0 + 4; have : (i 1).val < 4 := (i 1).isLt; omega⟩
    | 2 => exact ⟨Nat.zero_le _, by show (i 2).val < 0 + 4096; have : (i 2).val < 4096 := (i 2).isLt; omega⟩

/-- The first `n` windows of slot `c`, in the order of the stores, hold the statistics. -/
def FilledTo (c : Dev nD) (n : ℕ) (f : (cc0_scratch2 : Ref sig .tc).ty.Contents (Elt F)) : Prop :=
  ∀ i : S8x4x4096.Idx, (i 0).val = c.val → 2 * ((i 2).val / 512) + (i 1).val / 2 < n → f i = stats m i

theorem chunkOf_eq (s : ℕ) (j : Fin 8) (h : s / 512 = j.val) : chunkOf s = j := Fin.ext (by show s / 512 % 8 = j.val; omega)

/-- Storing the sums of chunk `j` fills the next window, … -/
theorem FilledTo.sums {c : Dev nD} {f : (cc0_scratch2 : Ref sig .tc).ty.Contents (Elt F)} (j : Fin 8) {off : Fin 3 → ℕ} {h} {w : Vec F S1x2x512 .f32}
    (hw : w = k0_pay4 (chunk m c j))
    (hf : FilledTo m c (2 * j.val) f) (hoff : off = ![c.val, 0, 512 * j.val]) : FilledTo m c (2 * j.val + 1) (wr c off h f w) := by
  subst hw; intro i hi hn
  rw [wr_apply c 0 j.val off hoff h f _ i hi rfl]
  split_ifs with hc
  · have hd : (⟨(i 0).val, (i 0).isLt⟩ : Dev nD) = c := Fin.ext hi
    unfold stats
    rw [if_pos (by omega), hd, chunkOf_eq _ j hc.2.2]
  · exact hf i hi (by have : (i 1).val < 4 := (i 1).isLt; omega)

/-- … and storing its sums of squares the one after. -/
theorem FilledTo.squares {c : Dev nD} {f : (cc0_scratch2 : Ref sig .tc).ty.Contents (Elt F)} (j : Fin 8) {off : Fin 3 → ℕ} {h} {w : Vec F S1x2x512 .f32}
    (hw : w = k0_pay5 (chunk m c j))
    (hf : FilledTo m c (2 * j.val + 1) f) (hoff : off = ![c.val, 2, 512 * j.val]) : FilledTo m c (2 * j.val + 2) (wr c off h f w) := by
  subst hw; intro i hi hn
  rw [wr_apply c 2 j.val off hoff h f _ i hi rfl]
  split_ifs with hc
  · have hd : (⟨(i 0).val, (i 0).isLt⟩ : Dev nD) = c := Fin.ext hi
    unfold stats
    rw [if_neg (by omega), hd, chunkOf_eq _ j hc.2.2]
  · exact hf i hi (by have : (i 1).val < 4 := (i 1).isLt; omega)

theorem FilledTo.none (c : Dev nD) (f : (cc0_scratch2 : Ref sig .tc).ty.Contents (Elt F)) : FilledTo m c (2 * (0 : Fin 8).val) f :=
  fun i _ h => absurd h (Nat.not_lt_zero _)

/-- After its sixteen stores device `c`'s slot holds `c`'s statistics. -/
theorem FilledTo.all {c : Dev nD} {f : (cc0_scratch2 : Ref sig .tc).ty.Contents (Elt F)} (hf : FilledTo m c (2 * (7 : Fin 8).val + 2) f) :
    ∀ i ∈ (slotM c).view.set, f i = stats m i := fun i hm =>
  hf i ((mem_slot c i).mp hm) (by
    have h1 : (i 1).val < 4 := (i 1).isLt
    have h2 : (i 2).val < 4096 := (i 2).isLt
    show _ < 16
    omega)

/-- The kernel's sums of the eight chunks are one function, and so are its sums of squares. -/
theorem pay6_eq : @k0_pay6 F _ = k0_pay4 := rfl
theorem pay7_eq : @k0_pay7 F _ = k0_pay5 := rfl
theorem pay8_eq : @k0_pay8 F _ = k0_pay4 := rfl
theorem pay9_eq : @k0_pay9 F _ = k0_pay5 := rfl
theorem pay11_eq (v : Vec F S2x512x512 .f32) : k0_pay11 (k0_pay10 v) = k0_pay4 v := rfl
theorem pay12_eq : @k0_pay12 F _ = k0_pay5 := rfl
theorem pay13_eq : @k0_pay13 F _ = k0_pay4 := rfl
theorem pay14_eq : @k0_pay14 F _ = k0_pay5 := rfl
theorem pay15_eq : @k0_pay15 F _ = k0_pay4 := rfl
theorem pay16_eq : @k0_pay16 F _ = k0_pay5 := rfl
theorem pay17_eq : @k0_pay17 F _ = k0_pay4 := rfl
theorem pay19_eq (v : Vec F S2x512x512 .f32) : k0_pay19 (k0_pay18 v) = k0_pay5 v := rfl
theorem pay20_eq : @k0_pay20 F _ = k0_pay4 := rfl
theorem pay21_eq : @k0_pay21 F _ = k0_pay5 := rfl

/-! ## Buffers in parts -/

/-- The eight slots as seen from device `c`: its own, then those of the devices before it. -/
theorem univ_dev (c : Dev nD) : (Finset.univ : Finset (Dev nD)) = [c, mi c 0, mi c 1, mi c 2, mi c 3, mi c 4, mi c 5, mi c 6].toFinset := by
  revert c; decide
theorem nodup_dev (c : Dev nD) : [c, mi c 0, mi c 1, mi c 2, mi c 3, mi c 4, mi c 5, mi c 6].Nodup := by revert c; decide
theorem univ_peers (c : Dev nD) : (Finset.univ : Finset (Dev nD)) = [c, pl c 0, pl c 1, pl c 2, pl c 3, pl c 4, pl c 5, pl c 6].toFinset := by
  revert c; decide
theorem nodup_peers (c : Dev nD) : [c, pl c 0, pl c 1, pl c 2, pl c 3, pl c 4, pl c 5, pl c 6].Nodup := by revert c; decide

/-- The table is its eight slots. -/
theorem table_slots (c : Dev nD) (f : (cc0_scratch2 : Ref sig .tc).ty.Contents (Elt F)) :
    (stM.view.loc (c : Thread nD τ) ↦[stM.view.set]{fullShare} f : sProp 𝕄) = bigSep Finset.univ fun d : Dev nD => slotPts c d fullShare f := by
  have hs : stM.view.set = Finset.univ.biUnion fun d : Dev nD => (slotM d).view.set := by
    ext i
    constructor
    · intro _
      exact Finset.mem_biUnion.mpr ⟨⟨(i 0).val, (i 0).isLt⟩, Finset.mem_univ _, (mem_slot _ i).mpr rfl⟩
    · intro _
      show i ∈ (View.whole cc0_scratch2).set
      rw [View.set_whole]; exact Finset.mem_univ i
  rw [hs]
  refine pointsTo_biUnion (ℓ := stM.view.loc (c : Thread nD τ)) Finset.univ (fun d : Dev nD => (slotM d).view.set) fun d _ d' _ hne => ?_
  refine Finset.disjoint_left.mpr fun i hi hi' => hne (Fin.ext ?_)
  exact ((mem_slot d i).mp hi).symm.trans ((mem_slot d' i).mp hi')

/-- The table from the device's own slot and those it received. -/
theorem table_received (c : Dev nD) (f : (cc0_scratch2 : Ref sig .tc).ty.Contents (Elt F)) :
    iprop(slotPts c c fullShare f ∗ slotPts c (mi c 0) fullShare f ∗ slotPts c (mi c 1) fullShare f ∗ slotPts c (mi c 2) fullShare f
        ∗ slotPts c (mi c 3) fullShare f ∗ slotPts c (mi c 4) fullShare f ∗ slotPts c (mi c 5) fullShare f ∗ slotPts c (mi c 6) fullShare f)
      = (stM.view.loc (c : Thread nD τ) ↦[stM.view.set]{fullShare} f : sProp 𝕄) := by
  rw [table_slots, bigSep_univ_eq_bigSepL _ (univ_dev c) (nodup_dev c)]; rfl

/-- The table into the device's own slot and those it hands out, each at some contents. -/
theorem table_lent (c : Dev nD) (f : (cc0_scratch2 : Ref sig .tc).ty.Contents (Elt F)) :
    (stM.view.loc (c : Thread nD τ) ↦[stM.view.set]{fullShare} f : sProp 𝕄)
      ⊢ iprop(slotPts c c fullShare f ∗ bigSep Finset.univ fun k : Fin 7 => iprop(∃ g, slotPts (F := F) c (pl c k) fullShare g)) := by
  have h : (stM.view.loc (c : Thread nD τ) ↦[stM.view.set]{fullShare} f : sProp 𝕄)
      = iprop(slotPts c c fullShare f ∗ bigSep Finset.univ fun k : Fin 7 => slotPts c (pl c k) fullShare f) := by
    rw [table_slots, bigSep_univ_eq_bigSepL _ (univ_peers c) (nodup_peers c), bigSep_fin7]; rfl
  rw [h]
  exact sep_mono_right (bigSep_mono fun k _ => show (slotPts c (pl c k) fullShare f : sProp 𝕄) ⊢ iprop(∃ g, slotPts (F := F) c (pl c k) fullShare g) from by
    iintro H
    iexists f
    iexact H)

/-- Rows `n … n + 511` of a buffer of the block's shape, on device `c`. -/
abbrev piece {sp : Space} {e : EltTy} (M : Memref sig .tc sp S2x4096x512 e) (c : Dev nD) (n : ℕ)
    (h : ∀ a, (![0, n, 0] : Fin 3 → Nat) a + S2x512x512.size a ≤ S2x4096x512.size a) (f : Buf (Elt F) (M.view.loc (c : Thread nD τ))) : sProp 𝕄 :=
  (M.slice (Rect.unit (s := S2x4096x512) ![0, n, 0] S2x512x512.size h) (fun _ => rfl)).view.loc (c : Thread nD τ)
    ↦[(M.slice (Rect.unit (s := S2x4096x512) ![0, n, 0] S2x512x512.size h) (fun _ => rfl)).view.set]{fullShare} f

/-- The positions of the `j`-th chunk. -/
theorem mem_rows (j : Fin 8) (y : S2x4096x512.Idx) : y ∈ (rowsR j).set ↔ (y 1).val / 512 = j.val := by
  rw [Rect.mem_set_unit]
  have h0 : (y 0).val < 2 := (y 0).isLt
  have h1 : (y 1).val < 4096 := (y 1).isLt
  have h2 : (y 2).val < 512 := (y 2).isLt
  constructor
  · intro h
    have := h 1
    have h' : 512 * j.val ≤ (y 1).val ∧ (y 1).val < 512 * j.val + 512 := this
    omega
  · intro h a
    match a with
    | 0 => exact ⟨Nat.zero_le _, by show (y 0).val < 0 + 2; omega⟩
    | 1 => exact ⟨by show 512 * j.val ≤ (y 1).val; omega, by show (y 1).val < 512 * j.val + 512; omega⟩
    | 2 => exact ⟨Nat.zero_le _, by show (y 2).val < 0 + 512; omega⟩

theorem rows_set {sp : Space} {e : EltTy} (M : Memref sig .tc sp S2x4096x512 e) (j : Fin 8) (i : M.view.ty.Idx) :
    i ∈ ((M.slice (rowsR j) (fun _ => rfl)).view.set : Finset M.view.ty.Idx) ↔ ∃ y, (y 1).val / 512 = j.val ∧ M.view.emb y = i := by
  have hs : ((M.slice (rowsR j) (fun _ => rfl)).view.set : Finset M.view.ty.Idx) = (rowsR j).set.map M.view.emb := View.set_slice _ _
  rw [hs, Finset.mem_map]
  exact exists_congr fun y => and_congr_left fun _ => mem_rows j y

/-- The elements of a buffer of the block's shape, chunk by chunk. -/
theorem set_rows {sp : Space} {e : EltTy} (M : Memref sig .tc sp S2x4096x512 e) :
    M.view.set = Finset.univ.biUnion fun j : Fin 8 => (M.slice (rowsR j) (fun _ => rfl)).view.set := by
  ext i
  constructor
  · intro hi
    obtain ⟨y, -, rfl⟩ := Finset.mem_map.mp hi
    have h1 : (y 1).val < 4096 := (y 1).isLt
    obtain ⟨j, hj⟩ : ∃ j : Fin 8, (y 1).val / 512 = j.val := ⟨⟨(y 1).val / 512, by omega⟩, rfl⟩
    have hm := (rows_set M j (M.view.emb y)).mpr ⟨y, hj, rfl⟩
    exact Finset.mem_biUnion.mpr ⟨j, Finset.mem_univ _, hm⟩
  · intro hi
    obtain ⟨j, -, hi⟩ := Finset.mem_biUnion.mp hi
    obtain ⟨y, -, rfl⟩ := (rows_set M j i).mp hi
    exact Finset.mem_map_of_mem _ (Finset.mem_univ y)

theorem disjoint_rows {sp : Space} {e : EltTy} (M : Memref sig .tc sp S2x4096x512 e) (j j' : Fin 8) (hne : j ≠ j') :
    Disjoint (M.slice (rowsR j) (fun _ => rfl)).view.set (M.slice (rowsR j') (fun _ => rfl)).view.set := by
  refine Finset.disjoint_left.mpr fun i hi hi' => hne (Fin.ext ?_)
  obtain ⟨y, hy, rfl⟩ := (rows_set M j i).mp hi
  obtain ⟨y', hy', he⟩ := (rows_set M j' _).mp hi'
  rw [← hy, ← hy', M.view.emb.injective he]

/-- A buffer of the block's shape is its eight chunks of 512 rows. -/
theorem whole_rows {sp : Space} {e : EltTy} (M : Memref sig .tc sp S2x4096x512 e) (c : Dev nD) (f : Buf (Elt F) (M.view.loc (c : Thread nD τ))) :
    (M.view.loc (c : Thread nD τ) ↦[M.view.set]{fullShare} f : sProp 𝕄) = bigSep Finset.univ fun j : Fin 8 => piece M c (512 * j.val) (rows_inb j) f := by
  rw [set_rows M]
  exact pointsTo_biUnion (ℓ := M.view.loc (c : Thread nD τ)) Finset.univ (fun j : Fin 8 => (M.slice (rowsR j) (fun _ => rfl)).view.set)
    fun j _ j' _ hne => disjoint_rows M j j' hne

/-- Eight chunks, whatever each holds, are the buffer at some contents. -/
theorem rows_whole {sp : Space} {e : EltTy} (M : Memref sig .tc sp S2x4096x512 e) (c : Dev nD) (fs : Fin 8 → Buf (Elt F) (M.view.loc (c : Thread nD τ))) :
    (bigSep Finset.univ fun j : Fin 8 => piece M c (512 * j.val) (rows_inb j) (fs j))
      ⊢ iprop(∃ g, M.view.loc (c : Thread nD τ) ↦[M.view.set]{fullShare} g : sProp 𝕄) := by
  refine (pointsTo_biUnion_join (ℓ := M.view.loc (c : Thread nD τ)) Finset.univ (fun j : Fin 8 => (M.slice (rowsR j) (fun _ => rfl)).view.set) fs (fs 0)
    fun j _ j' _ hne => disjoint_rows M j j' hne).trans ?_
  rw [← set_rows M]
  iintro ⟨%g, -, H⟩
  iexists g
  iexact H

end Cert.Exchange

end
-- ==== Proof.Output.lean ====
/-
  What the result comes to hold: each chunk of 512 rows is one function of the table of statistics, of the two products and of
  the same chunk of `x`.
-/
module

public import proofs.«01_k».proof.Proof.Contents

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

theorem cols_slice (j : Fin 8) : S2x4096.Slices ![0, 512 * j.val] S2x512 := by revert j; decide

/-- A chunk of `x` less the means, times the reciprocal roots, times the gains, plus the shifts, in bfloat16. -/
def outOf (j : Fin 8) (mean root : FVec F S2x4096 .f32) (gain shift : FVec F S2x512 .f32) (x : Vec F S2x512x512 .f32) : FVec F S2x512x512 .bf16 :=
  have perRow (v : FVec F S2x4096 .f32) : FVec F S2x512x512 .f32 :=
    broadcastTo S2x512x512 (shapeCast S2x512x1 (extractStridedSlice S2x512 ![0, 512 * j.val] v (cols_slice j)) shapeCasts_S2x512_S2x512x1)
      broadcasts_S2x512x1_S2x512x512
  have perChannel (v : FVec F S2x512 .f32) : FVec F S2x512x512 .f32 :=
    broadcastTo S2x512x512 (shapeCast S2x1x512 v shapeCasts_S2x512_S2x1x512) broadcasts_S2x1x512_S2x512x512
  shapeCast S2x512x512
    (truncf .bf16 (addf (mulf (mulf (subf x (perRow mean)) (perRow root)) (perChannel gain)) (perChannel shift)) bitsLt_bf16_f32)
    shapeCasts_S2x512x512_S2x512x512

section Payloads
variable (mean root : FVec F S2x4096 .f32) (gain shift scale : FVec F S2x512 .f32) (tab : Vec F S8x4x4096 .f32) (x : Vec F S2x512x512 .f32)

/-- The eight chunks the kernel stores are that function of their number. -/
theorem pay26_eq : k0_pay26 scale shift tab x = outOf 0 (k0_pay23 tab) (k0_pay24 tab) (k0_pay25 scale) shift x := rfl
theorem pay27_eq : k0_pay27 shift mean root gain x = outOf 1 mean root gain shift x := rfl
theorem pay29_eq : k0_pay29 (k0_pay28 shift mean root gain x) = outOf 2 mean root gain shift x := rfl
theorem pay30_eq : k0_pay30 shift mean root gain x = outOf 3 mean root gain shift x := rfl
theorem pay32_eq : k0_pay32 shift root gain x (k0_pay31 mean) = outOf 4 mean root gain shift x := rfl
theorem pay33_eq : k0_pay33 shift mean root gain x = outOf 5 mean root gain shift x := rfl
theorem pay34_eq : k0_pay34 shift mean root gain x = outOf 6 mean root gain shift x := rfl
theorem pay37_eq : k0_pay37 shift gain (k0_pay35 mean x) (k0_pay36 root) = outOf 7 mean root gain shift x := rfl

end Payloads

/-- Chunk `j` of device `c`'s result, from `t` and its blocks of the two weights. -/
def outChunk (c : Dev nD) (t : Vec F S2x128 .f32) (wc ws : Vec F S128x512 .f32) (j : Fin 8) : FVec F S2x512x512 .bf16 :=
  outOf j (k0_pay23 (stats m)) (k0_pay24 (stats m)) (k0_pay25 (k0_pay2 t wc)) (k0_pay3 t ws) (chunk m c j)

theorem outChunk_of (c : Dev nD) {t : Vec F S2x128 .f32} {wc ws : Vec F S128x512 .f32} (j : Fin 8) {mean root : FVec F S2x4096 .f32} {gain shift : FVec F S2x512 .f32}
    {x : Vec F S2x512x512 .f32} (hm : mean = k0_pay23 (stats m)) (hr : root = k0_pay24 (stats m)) (hg : gain = k0_pay25 (k0_pay2 t wc))
    (hs : shift = k0_pay3 t ws) (hx : x = chunk m c j) : outOf j mean root gain shift x = outChunk m c t wc ws j := by
  subst hm hr hg hs hx; rfl

/-- What a load of a whole buffer reads. -/
theorem load_t (h) (f : (cc0_stg0_0 : Ref sig .tc).ty.Contents (Elt F)) :
    View.readAt (Elt F) tM.view (Rect.unit (s := S2x128) ![0, 0] S2x128.size h).toLoadRect f = f := funext fun x =>
  congrArg f (funext fun a => Fin.ext (by
    match a with
    | 0 => show 0 + 1 * (x 0).val = _; omega
    | 1 => show 0 + 1 * (x 1).val = _; omega))
theorem load_wc (h) (f : (cc0_stg1_0 : Ref sig .tc).ty.Contents (Elt F)) :
    View.readAt (Elt F) wcM.view (Rect.unit (s := S128x512) ![0, 0] S128x512.size h).toLoadRect f = f := funext fun x =>
  congrArg f (funext fun a => Fin.ext (by
    match a with
    | 0 => show 0 + 1 * (x 0).val = _; omega
    | 1 => show 0 + 1 * (x 1).val = _; omega))
theorem load_ws (h) (f : (cc0_stg2_0 : Ref sig .tc).ty.Contents (Elt F)) :
    View.readAt (Elt F) wsM.view (Rect.unit (s := S128x512) ![0, 0] S128x512.size h).toLoadRect f = f := funext fun x =>
  congrArg f (funext fun a => Fin.ext (by
    match a with
    | 0 => show 0 + 1 * (x 0).val = _; omega
    | 1 => show 0 + 1 * (x 1).val = _; omega))
theorem load_table (h) (f : (cc0_scratch2 : Ref sig .tc).ty.Contents (Elt F)) :
    View.readAt (Elt F) stM.view (Rect.unit (s := S8x4x4096) ![0, 0, 0] S8x4x4096.size h).toLoadRect f = f := funext fun x =>
  congrArg f (funext fun a => Fin.ext (by
    match a with
    | 0 => show 0 + 1 * (x 0).val = _; omega
    | 1 => show 0 + 1 * (x 1).val = _; omega
    | 2 => show 0 + 1 * (x 2).val = _; omega))

/-- A chunk stored into the outgoing buffer, as the copy reads it. -/
theorem stored {off : Fin 3 → ℕ} (h : ∀ a, off a + S2x512x512.size a ≤ S2x4096x512.size a) (hr) (f : (cc0_scratch1 : Ref sig .tc).ty.Contents (Elt F))
    (w : Vec F S2x512x512 .bf16) :
    (ovM.slice (Rect.unit (s := S2x4096x512) off S2x512x512.size h) hr).view.read (Elt F)
      (View.write (Elt F) (ovM.access (Rect.unit (s := S2x4096x512) off S2x512x512.size h)) f w Finset.univ) = w := by
  funext y
  rw [View.read_apply]
  show cast _ (View.write (Elt F) (ovM.access (Rect.unit (s := S2x4096x512) off S2x512x512.size h)) f w Finset.univ
    ((ovM.access (Rect.unit (s := S2x4096x512) off S2x512x512.size h)).emb y)) = _
  rw [View.write_emb_of_mem _ _ (Finset.mem_univ _)]
  simp

set_option backward.proofsInPublic true in
/-- The position of an entry of a block inside its chunk. -/
def inChunk (i : S2x4096x512.Idx) : S2x512x512.Idx := fun
  | 0 => ⟨(i 0).val, (i 0).isLt⟩ | 1 => ⟨(i 1).val % 512, Nat.mod_lt _ (by decide)⟩ | 2 => ⟨(i 2).val, (i 2).isLt⟩

/-- Device `c`'s result. -/
def outAll (c : Dev nD) (t : Vec F S2x128 .f32) (wc ws : Vec F S128x512 .f32) : (main_v1 : Ref sig .tc).ty.Contents (Elt F) :=
  fun i : S2x4096x512.Idx => outChunk m c t wc ws (chunkOf (i 1).val) (inChunk i)

/-- Two contents which read the same through a view agree on its elements. -/
theorem agree_of_read {sp : Space} {s : Shape} {e : EltTy} (M : Memref sig .tc sp s e) {f g : M.view.ty.Contents (Elt F)}
    (h : M.view.read (Elt F) f = M.view.read (Elt F) g) : ∀ i ∈ M.view.set, f i = g i := fun i hi => by
  obtain ⟨x, -, rfl⟩ := Finset.mem_map.mp hi
  have := congrFun h x
  rw [View.read_apply, View.read_apply] at this
  exact (cast_inj _).mp this

/-- The `j`-th chunk of the result. -/
theorem read_outAll (c : Dev nD) (t : Vec F S2x128 .f32) (wc ws : Vec F S128x512 .f32) (j : Fin 8) :
    (oM.slice (rowsR j) (fun _ => rfl)).view.read (Elt F) (outAll m c t wc ws) = outChunk m c t wc ws j := funext fun y => by
  have h0 : (y 0).val < 2 := (y 0).isLt
  have h1 : (y 1).val < 512 := (y 1).isLt
  have h2 : (y 2).val < 512 := (y 2).isLt
  show outChunk m c t wc ws (chunkOf ((rowsR j).emb y 1).val) (inChunk ((rowsR j).emb y)) = _
  have e0 : ((rowsR j).emb y 0).val = (y 0).val := by show 0 + 1 * (y 0).val = _; omega
  have e1 : ((rowsR j).emb y 1).val = 512 * j.val + (y 1).val := by show 512 * j.val + 1 * (y 1).val = _; omega
  have e2 : ((rowsR j).emb y 2).val = (y 2).val := by show 0 + 1 * (y 2).val = _; omega
  rw [chunkOf_eq _ j (by omega)]
  refine congrArg _ (funext fun a => Fin.ext ?_)
  match a with
  | 0 => exact e0
  | 1 => show ((rowsR j).emb y 1).val % 512 = _; omega
  | 2 => exact e2

/-- A chunk of the result, once copied out, is that of `outAll`. -/
theorem copied_out (c : Dev nD) (t : Vec F S2x128 .f32) (wc ws : Vec F S128x512 .f32) (j : Fin 8) (f : (main_v1 : Ref sig .tc).ty.Contents (Elt F))
    (w : Vec F S2x512x512 .bf16) (hw : w = outChunk m c t wc ws j) :
    ∀ i ∈ (oM.slice (rowsR j) (fun _ => rfl)).view.set,
      (oM.slice (rowsR j) (fun _ => rfl)).view.writes (Elt F) f [⟨Rect.whole _, w⟩] i = outAll m c t wc ws i := by
  subst hw
  exact agree_of_read (oM.slice (rowsR j) (fun _ => rfl))
    ((View.read_writes_whole (Val := Elt F) (oM.slice (rowsR j) (fun _ => rfl)).view f (outChunk m c t wc ws j)).trans (read_outAll m c t wc ws j).symm)

/-- Eight chunks, each at some contents, are the buffer at some contents. -/
theorem rows_join {sp : Space} {e : EltTy} (M : Memref sig .tc sp S2x4096x512 e) (c : Dev nD) :
    iprop((∃ f, piece M c (512 * (0 : Fin 8).val) (rows_inb 0) f : sProp 𝕄) ∗ (∃ f, piece M c (512 * (1 : Fin 8).val) (rows_inb 1) f)
        ∗ (∃ f, piece M c (512 * (2 : Fin 8).val) (rows_inb 2) f) ∗ (∃ f, piece M c (512 * (3 : Fin 8).val) (rows_inb 3) f)
        ∗ (∃ f, piece M c (512 * (4 : Fin 8).val) (rows_inb 4) f) ∗ (∃ f, piece M c (512 * (5 : Fin 8).val) (rows_inb 5) f)
        ∗ (∃ f, piece M c (512 * (6 : Fin 8).val) (rows_inb 6) f) ∗ (∃ f, piece M c (512 * (7 : Fin 8).val) (rows_inb 7) f))
      ⊢ iprop(∃ g, M.view.loc (c : Thread nD τ) ↦[M.view.set]{fullShare} g : sProp 𝕄) := by
  rw [← bigSep_fin8 fun j : Fin 8 => iprop(∃ f, piece M c (512 * j.val) (rows_inb j) f : sProp 𝕄)]
  refine (BI.bigSep_exists_pi Finset.univ (fun (j : Fin 8) f => (piece M c (512 * j.val) (rows_inb j) f : sProp 𝕄))).trans ?_
  iintro ⟨%fs, H⟩
  iapply (rows_whole M c fs) $$ H

end Cert.Exchange

end
-- ==== Proof.Send.lean ====
/-
  One copy of a device's slot to a peer, and the two waits that end it.
-/
module

public import proofs.«01_k».proof.Proof.Ghost

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

abbrev 𝒱₀ : Variants := Variants.none

/-- A slot copied onto the same slot of another table holds there what it held. -/
theorem slot_landed (c d : Dev nD) (fd g : (cc0_scratch2 : Ref sig .tc).ty.Contents (Elt F)) :
    ((slotM c).view.loc (d : Thread nD τ) ↦[(slotM c).view.set]{fullShare}
        ((slotM c).view.write (Elt F) fd ((slotM c).view.read (Elt F) g) Finset.univ) : sProp 𝕄)
      = slotPts d c fullShare g :=
  pointsTo_congr fun i hi => by
    obtain ⟨x, -, rfl⟩ := Finset.mem_map.mp hi
    rw [View.write_emb_of_mem _ _ (Finset.mem_univ _), View.read_apply]
    simp

set_option maxHeartbeats 1000000 in
/-- The `k`-th copy: `c` lends a share of its slot and gives up the slot it was handed at the peer (`n`, as the kernel computes it). -/
theorem wp_send_peer (c n : Dev nD) (k : Fin 7) (hn : n = pl c k) {hsc : (slotM c).view.ref.isScScratch = false}
    {hsrc hdst : (slotM c).view.WordExact}
    {hsem : DmaTarget.Typed .vmem (.dma (recvS k)) (.remote (Dev.tc n : Thread nD τ) (slotM c) (.dma (sendS k)) hsc)}
    {α : Type} {Q : α → sProp 𝕄} {kont : PUnit → Prog (TpuEff nD τ sig (Elt F) Λ₀ .tc) α}
    (fd : (cc0_scratch2 : Ref sig .tc).ty.Contents (Elt F)) (O : CellTallies nD τ sig Unit) (W : Waits sig Unit) :
    iprop(records m K ∗ slotPts c c (lent k) (stats m) ∗ slotPts (pl c k) c fullShare fd
        ∗ owes (c : Thread nD τ) (O + tallyAt (recvCell (pl c k) k) () N) W
        ∗ dutyTok ER (sendCell c k) 0 0 ∗ dutyTok ER (recvCell (pl c k) k) 0 0)
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slotM c) (.remote (Dev.tc n : Thread nD τ) (slotM c) (.dma (sendS k)) hsc) (.dma (recvS k)) hsrc hdst hsem) kont) Q) := by
  subst hn
  iintro ⟨#HR, Hs, Hd, HO, Ht, Ht'⟩ Hk
  ihave #HIs := (records_inv m K (c, sI k)) $$ HR
  ihave #HIr := (records_inv m K (pl c k, rI k)) $$ HR
  ihave #Hrs := (records_reached m K (c, sI k)) $$ HR
  ihave #Hrr := (records_reached m K (pl c k, rI k)) $$ HR
  iapply (Rounds.wp_send_pointsTo 𝒱₀ ER (sched m) (c : Thread nD τ) none (κ₁ := K (c, sI k)) (κ₂ := K (pl c k, rI k))
    (r₁ := 0) (r₂ := 0) (d₁ := 0) (d₂ := 0) (fd := fd) (q := lent k) (fs := stats m)
    (mem_send m c k) (mem_recv m (pl c k) k) () () N (slot_credit c) (amount_send m c k 0) (amount_recv m (pl c k) k 0) O rfl (W := W)
    (by rw [payload_send]; exact BI.Entails.refl _)
    (by rw [payload_recv]; unfold recvPay; rw [mi_pl, slot_landed])) $$ [Hs Hd HO Ht Ht']
  · isplitr; · iexact HIs
    isplitr; · iexact HIr
    isplitl [Hs]; · iexact Hs
    isplitl [Hd]; · iexact Hd
    isplitl [HO]; · iexact HO
    isplitl [Ht]; · iexact Ht
    isplitr; · iexact Hrs
    isplitl [Ht']; · iexact Ht'
    iexact Hrr
  iexact Hk

set_option maxHeartbeats 1000000 in
/-- The wait for the `k`-th departure gives the lent share back, and the semaphore at zero. -/
theorem wp_wait_send (c d : Dev nD) (k : Fin 7) {hsrc hdst : (slotM d).view.WordExact}
    {α : Type} {Q : α → sProp 𝕄} {kont : PUnit → Prog (TpuEff nD τ sig (Elt F) Λ₀ .tc) α} (W : Waits sig Unit) :
    iprop(records m K ∗ cred (tallyAt (sendCell c k) () N) ∗ owes (c : Thread nD τ) 0 W ∗ atPos ER (sendCell c k) 0 ∅ 0)
      ⊢ iprop(((owes (c : Thread nD τ) 0 (insert (SemLoc.dma (sendS k), ()) W) ∗ semVal (sendCell c k) 0 ∗ slotPts c c (lent k) (stats m))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendS k) (slotM d) (slotM d) hsrc hdst) kont) Q) := by
  iintro ⟨#HR, Hc, HO, Hat⟩ Hk
  ihave #HI := (records_inv m K (c, sI k)) $$ HR
  ihave Hc := (Entails.of_eq (congrArg (fun n => (cred (tallyAt (sendCell c k) () n) : sProp 𝕄)) (slot_credit d).symm)) $$ Hc
  iapply (Rounds.wp_wait_rest_token 𝒱₀ ER (sched m) (c : Thread nD τ) none (κ := K (c, sI k)) (k' := (slotM d).view.dmaCredit)
      (wpE_waitDma2_eq 𝒱₀ (c : Thread nD τ) none Set.univ) (Set.mem_univ _) () (O := 0) (W := W) (R := 0) (m := 0) (T := ∅)
      (by rw [Nat.zero_add, expect_send]; exact slot_credit d)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq ((rest_send m c k).trans (by unfold sendPay; rfl))) $$ Hpay
  imod (Rounds.cell_close ER (sched m) (Set.mem_univ (K (c, sI k))) (fun h => h) (R := 0 + 1) (duties_later m (sendCell c k))) $$ [Hat] with Hz
  · isplitr; · iexact HI
    iexact Hat
  iapply Hk $$ [HO Hz Hpay]
  isplitl [HO]; · iexact HO
  isplitl [Hz]; · iexact Hz
  iexact Hpay

set_option maxHeartbeats 1000000 in
/-- The wait for the `k`-th arrival gives the slot of the device it came from, filled, and the semaphore at zero. -/
theorem wp_wait_recv (c d : Dev nD) (k : Fin 7) {hsrc hdst : (slotM d).view.WordExact}
    {α : Type} {Q : α → sProp 𝕄} {kont : PUnit → Prog (TpuEff nD τ sig (Elt F) Λ₀ .tc) α} (W : Waits sig Unit) :
    iprop(records m K ∗ cred (tallyAt (recvCell c k) () N) ∗ owes (c : Thread nD τ) 0 W ∗ atPos ER (recvCell c k) 0 ∅ 0)
      ⊢ iprop(((owes (c : Thread nD τ) 0 (insert (SemLoc.dma (recvS k), ()) W) ∗ semVal (recvCell c k) 0 ∗ slotPts c (mi c k) fullShare (stats m))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvS k) (slotM d) (slotM d) hsrc hdst) kont) Q) := by
  iintro ⟨#HR, Hc, HO, Hat⟩ Hk
  ihave #HI := (records_inv m K (c, rI k)) $$ HR
  ihave Hc := (Entails.of_eq (congrArg (fun n => (cred (tallyAt (recvCell c k) () n) : sProp 𝕄)) (slot_credit d).symm)) $$ Hc
  iapply (Rounds.wp_wait_rest_token 𝒱₀ ER (sched m) (c : Thread nD τ) none (κ := K (c, rI k)) (k' := (slotM d).view.dmaCredit)
      (wpE_waitDma2_eq 𝒱₀ (c : Thread nD τ) none Set.univ) (Set.mem_univ _) () (O := 0) (W := W) (R := 0) (m := 0) (T := ∅)
      (by rw [Nat.zero_add, expect_recv]; exact slot_credit d)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq ((rest_recv m c k).trans (by unfold recvPay; rfl))) $$ Hpay
  imod (Rounds.cell_close ER (sched m) (Set.mem_univ (K (c, rI k))) (fun h => h) (R := 0 + 1) (duties_later m (recvCell c k))) $$ [Hat] with Hz
  · isplitr; · iexact HI
    iexact Hat
  iapply Hk $$ [HO Hz Hpay]
  isplitl [HO]; · iexact HO
  isplitl [Hz]; · iexact Hz
  iexact Hpay

end Cert.Exchange

end
-- ==== Proof.Body.lean ====
/-
  The body's run on a symbolic device `c`, one step after another in program order: seven signals, eight copies of `x`
  into the private buffer, the two products, eight chunks of sums, the wait for the seven signals, seven copies of the
  device's slot to its peers, the waits for departures and arrivals, eight chunks of output and their copies out.
  The signals, the local copies, the loads and the stores are steps of `sl_exec`; the remote copies and their waits are
  the lemmas of Send.lean.
-/
module

public import proofs.«01_k».proof.Proof.Output
public import proofs.«01_k».proof.Proof.Send
public import Idealize.ShloMosaic.Lib.Exec

@[expose] public section

set_option maxRecDepth 65536

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

@[sl_canon] theorem sendA0 (h) : (cc0_scratch5.slice (Rect.unit (s := S7) ![0] S1.size h)).squeeze S_ squeezes_S1_S_ = sendA 0 := sendA_eq 0 0 rfl h
@[sl_canon] theorem sendA1 (h) : (cc0_scratch5.slice (Rect.unit (s := S7) ![1] S1.size h)).squeeze S_ squeezes_S1_S_ = sendA 1 := sendA_eq 1 1 rfl h
@[sl_canon] theorem sendA2 (h) : (cc0_scratch5.slice (Rect.unit (s := S7) ![2] S1.size h)).squeeze S_ squeezes_S1_S_ = sendA 2 := sendA_eq 2 2 rfl h
@[sl_canon] theorem sendA3 (h) : (cc0_scratch5.slice (Rect.unit (s := S7) ![3] S1.size h)).squeeze S_ squeezes_S1_S_ = sendA 3 := sendA_eq 3 3 rfl h
@[sl_canon] theorem sendA4 (h) : (cc0_scratch5.slice (Rect.unit (s := S7) ![4] S1.size h)).squeeze S_ squeezes_S1_S_ = sendA 4 := sendA_eq 4 4 rfl h
@[sl_canon] theorem sendA5 (h) : (cc0_scratch5.slice (Rect.unit (s := S7) ![5] S1.size h)).squeeze S_ squeezes_S1_S_ = sendA 5 := sendA_eq 5 5 rfl h
@[sl_canon] theorem sendA6 (h) : (cc0_scratch5.slice (Rect.unit (s := S7) ![6] S1.size h)).squeeze S_ squeezes_S1_S_ = sendA 6 := sendA_eq 6 6 rfl h
@[sl_canon] theorem recvA0 (h) : (cc0_scratch6.slice (Rect.unit (s := S7) ![0] S1.size h)).squeeze S_ squeezes_S1_S_ = recvA 0 := recvA_eq 0 0 rfl h
@[sl_canon] theorem recvA1 (h) : (cc0_scratch6.slice (Rect.unit (s := S7) ![1] S1.size h)).squeeze S_ squeezes_S1_S_ = recvA 1 := recvA_eq 1 1 rfl h
@[sl_canon] theorem recvA2 (h) : (cc0_scratch6.slice (Rect.unit (s := S7) ![2] S1.size h)).squeeze S_ squeezes_S1_S_ = recvA 2 := recvA_eq 2 2 rfl h
@[sl_canon] theorem recvA3 (h) : (cc0_scratch6.slice (Rect.unit (s := S7) ![3] S1.size h)).squeeze S_ squeezes_S1_S_ = recvA 3 := recvA_eq 3 3 rfl h
@[sl_canon] theorem recvA4 (h) : (cc0_scratch6.slice (Rect.unit (s := S7) ![4] S1.size h)).squeeze S_ squeezes_S1_S_ = recvA 4 := recvA_eq 4 4 rfl h
@[sl_canon] theorem recvA5 (h) : (cc0_scratch6.slice (Rect.unit (s := S7) ![5] S1.size h)).squeeze S_ squeezes_S1_S_ = recvA 5 := recvA_eq 5 5 rfl h
@[sl_canon] theorem recvA6 (h) : (cc0_scratch6.slice (Rect.unit (s := S7) ![6] S1.size h)).squeeze S_ squeezes_S1_S_ = recvA 6 := recvA_eq 6 6 rfl h
@[sl_canon] theorem inA0 (h) : (cc0_scratch3.slice (Rect.unit (s := S8) ![0] S1.size h)).squeeze S_ squeezes_S1_S_ = inA 0 := inA_eq 0 0 rfl h
@[sl_canon] theorem inA1 (h) : (cc0_scratch3.slice (Rect.unit (s := S8) ![1] S1.size h)).squeeze S_ squeezes_S1_S_ = inA 1 := inA_eq 1 1 rfl h
@[sl_canon] theorem inA2 (h) : (cc0_scratch3.slice (Rect.unit (s := S8) ![2] S1.size h)).squeeze S_ squeezes_S1_S_ = inA 2 := inA_eq 2 2 rfl h
@[sl_canon] theorem inA3 (h) : (cc0_scratch3.slice (Rect.unit (s := S8) ![3] S1.size h)).squeeze S_ squeezes_S1_S_ = inA 3 := inA_eq 3 3 rfl h
@[sl_canon] theorem inA4 (h) : (cc0_scratch3.slice (Rect.unit (s := S8) ![4] S1.size h)).squeeze S_ squeezes_S1_S_ = inA 4 := inA_eq 4 4 rfl h
@[sl_canon] theorem inA5 (h) : (cc0_scratch3.slice (Rect.unit (s := S8) ![5] S1.size h)).squeeze S_ squeezes_S1_S_ = inA 5 := inA_eq 5 5 rfl h
@[sl_canon] theorem inA6 (h) : (cc0_scratch3.slice (Rect.unit (s := S8) ![6] S1.size h)).squeeze S_ squeezes_S1_S_ = inA 6 := inA_eq 6 6 rfl h
@[sl_canon] theorem inA7 (h) : (cc0_scratch3.slice (Rect.unit (s := S8) ![7] S1.size h)).squeeze S_ squeezes_S1_S_ = inA 7 := inA_eq 7 7 rfl h
@[sl_canon] theorem outA0 (h) : (cc0_scratch4.slice (Rect.unit (s := S8) ![0] S1.size h)).squeeze S_ squeezes_S1_S_ = outA 0 := outA_eq 0 0 rfl h
@[sl_canon] theorem outA1 (h) : (cc0_scratch4.slice (Rect.unit (s := S8) ![1] S1.size h)).squeeze S_ squeezes_S1_S_ = outA 1 := outA_eq 1 1 rfl h
@[sl_canon] theorem outA2 (h) : (cc0_scratch4.slice (Rect.unit (s := S8) ![2] S1.size h)).squeeze S_ squeezes_S1_S_ = outA 2 := outA_eq 2 2 rfl h
@[sl_canon] theorem outA3 (h) : (cc0_scratch4.slice (Rect.unit (s := S8) ![3] S1.size h)).squeeze S_ squeezes_S1_S_ = outA 3 := outA_eq 3 3 rfl h
@[sl_canon] theorem outA4 (h) : (cc0_scratch4.slice (Rect.unit (s := S8) ![4] S1.size h)).squeeze S_ squeezes_S1_S_ = outA 4 := outA_eq 4 4 rfl h
@[sl_canon] theorem outA5 (h) : (cc0_scratch4.slice (Rect.unit (s := S8) ![5] S1.size h)).squeeze S_ squeezes_S1_S_ = outA 5 := outA_eq 5 5 rfl h
@[sl_canon] theorem outA6 (h) : (cc0_scratch4.slice (Rect.unit (s := S8) ![6] S1.size h)).squeeze S_ squeezes_S1_S_ = outA 6 := outA_eq 6 6 rfl h
@[sl_canon] theorem outA7 (h) : (cc0_scratch4.slice (Rect.unit (s := S8) ![7] S1.size h)).squeeze S_ squeezes_S1_S_ = outA 7 := outA_eq 7 7 rfl h

/-- What a signal to a peer hands over, from the sender's side. -/
theorem payload_give (c : Dev nD) (k : Fin 7) :
    (sched (F := F) m).payload (barCell (pl c k)) 0 (op k) = iprop(∃ f, slotPts (F := F) c (pl c k) fullShare f) := by
  rw [payload_bar]; unfold barPay; rw [pl_pl]

theorem owed_split (c : Dev nD) : owed c = owedArr c + tallyAt (barCell (pl c 6)) () 1 + tallyAt (barCell (pl c 5)) () 1
    + tallyAt (barCell (pl c 4)) () 1 + tallyAt (barCell (pl c 3)) () 1 + tallyAt (barCell (pl c 2)) () 1
    + tallyAt (barCell (pl c 1)) () 1 + tallyAt (barCell (pl c 0)) () 1 := by
  unfold owed owedBar; rw [Fin.sum_univ_seven]; ac_rfl

section Body
variable (K : Dev nD × CI → ℕ)

theorem known_bar (c : Dev nD) : records m K ⊢ cellInv ER (sched m) (K (c, bI)) (barCell c) := records_inv m K (c, bI)
theorem known_send (c : Dev nD) (k : Fin 7) : records m K ⊢ cellInv ER (sched m) (K (c, sI k)) (sendCell c k) := records_inv m K (c, sI k)
theorem known_recv (c : Dev nD) (k : Fin 7) : records m K ⊢ cellInv ER (sched m) (K (c, rI k)) (recvCell c k) := records_inv m K (c, rI k)
theorem at_bar (c : Dev nD) : records (F := F) m K ⊢ reached ER (barCell c) 0 := records_reached m K (c, bI)

theorem payload_send' (c : Dev nD) (k : Fin 7) :
    (sched (F := F) m).payload (sendCell c k) 0 0 = slotPts c c (lent k) (stats m) := payload_send m c k 0
theorem payload_recv' (c : Dev nD) (k : Fin 7) :
    (sched (F := F) m).payload (recvCell c k) 0 0 = slotPts c (mi c k) fullShare (stats m) := payload_recv m c k 0
theorem payload_recv_pl (c : Dev nD) (k : Fin 7) :
    (sched (F := F) m).payload (recvCell (pl c k) k) 0 0 = slotPts (pl c k) c fullShare (stats m) := by rw [payload_recv', mi_pl]

theorem owedArr_split (c : Dev nD) : owedArr c = 0 + tallyAt (recvCell (pl c 6) 6) () N + tallyAt (recvCell (pl c 5) 5) () N
    + tallyAt (recvCell (pl c 4) 4) () N + tallyAt (recvCell (pl c 3) 3) () N + tallyAt (recvCell (pl c 2) 2) () N
    + tallyAt (recvCell (pl c 1) 1) () N + tallyAt (recvCell (pl c 0) 0) () N := by
  unfold owedArr; rw [Fin.sum_univ_seven, zero_add]; ac_rfl

theorem payload_mine (c : Dev nD) (k : Fin 7) :
    (sched (F := F) m).payload (barCell c) 0 k = iprop(∃ f, slotPts (F := F) (pl c k) c fullShare f) := rfl

theorem at_send (c : Dev nD) (k : Fin 7) : records (F := F) m K ⊢ reached ER (sendCell c k) 0 := records_reached m K (c, sI k)
theorem at_recv (c : Dev nD) (k : Fin 7) : records (F := F) m K ⊢ reached ER (recvCell c k) 0 := records_reached m K (c, rI k)

/-- A device's own slot, dealt into the seven shares the copies read. -/
theorem slot_deal (c : Dev nD) : slotPts c c fullShare (stats m)
    = iprop(slotPts c c (lent 0) (stats m) ∗ slotPts c c (lent 1) (stats m) ∗ slotPts c c (lent 2) (stats m) ∗ slotPts c c (lent 3) (stats m)
      ∗ slotPts c c (lent 4) (stats m) ∗ slotPts c c (lent 5) (stats m) ∗ slotPts c c (lent 6) (stats m)) := by
  rw [← bigSep_fin7 fun k => slotPts c c (lent k) (stats m)]
  exact Transfers.pointsTo_deal (Ix := Unit) (Name := ℕ) (U := UU) (Lvl := ℕ) Finset.univ ⟨0, Finset.mem_univ _⟩ fullShare

theorem slot_amount (c : Dev nD) (s : DmaSem sig) : (slotM c).view.amount (.dma s) = 2048 := slot_credit c

attribute [local sl_rounds] slot_amount payload_mine duties_bar duties_send duties_recv
attribute [local sl_rounds 1100] payload_give
attribute [local sl_rounds] amount_bar mem_bar mem_send mem_recv amount_send amount_recv payload_recv' payload_send' expect_bar expect_send expect_recv payload_recv_pl

/-- What the body starts from on device `c`: its part of the protocol, its semaphores, its blocks of the arrays and its buffers. -/
def bodyStart (c : Dev nD) (W : Waits sig Unit) (t : Buf (Elt F) (tM.view.loc (c : Thread nD τ))) (wc : Buf (Elt F) (wcM.view.loc (c : Thread nD τ)))
    (ws : Buf (Elt F) (wsM.view.loc (c : Thread nD τ))) (fv : Buf (Elt F) (oM.view.loc (c : Thread nD τ))) : sProp 𝕄 :=
  iprop(records m K ∗ linear c ∗ cred (tallyAt (barCell c) () 7) ∗ (bigSep Finset.univ fun k : Fin 7 => cred (tallyAt (recvCell c k) () N))
    ∗ levAts L lv ∗ owes (c : Thread nD τ) (owed c) W
    ∗ (bigSep Finset.univ fun j : Fin 8 => semVal ((c : Thread nD τ), .dma (inS j)) 0)
    ∗ (bigSep Finset.univ fun j : Fin 8 => semVal ((c : Thread nD τ), .dma (outS j)) 0)
    ∗ (xM.view.loc (c : Thread nD τ) ↦[xM.view.set]{fullShare} xOf m c)
    ∗ (oM.view.loc (c : Thread nD τ) ↦[oM.view.set]{fullShare} fv)
    ∗ (∃ f, xvM.view.loc (c : Thread nD τ) ↦[xvM.view.set]{fullShare} f)
    ∗ (∃ f, ovM.view.loc (c : Thread nD τ) ↦[ovM.view.set]{fullShare} f)
    ∗ (∃ f, stM.view.loc (c : Thread nD τ) ↦[stM.view.set]{fullShare} f)
    ∗ (tM.view.loc (c : Thread nD τ) ↦[tM.view.set]{fullShare} t)
    ∗ (wcM.view.loc (c : Thread nD τ) ↦[wcM.view.set]{fullShare} wc)
    ∗ (wsM.view.loc (c : Thread nD τ) ↦[wsM.view.set]{fullShare} ws))

/-- The device's thirty-one semaphores at zero. -/
def semsZero (c : Dev nD) : sProp 𝕄 :=
  iprop(semVal (barCell c) 0
    ∗ (bigSep Finset.univ fun j : Fin 8 => semVal ((c : Thread nD τ), .dma (inS j)) 0)
    ∗ (bigSep Finset.univ fun j : Fin 8 => semVal ((c : Thread nD τ), .dma (outS j)) 0)
    ∗ (bigSep Finset.univ fun k : Fin 7 => semVal (sendCell c k) 0)
    ∗ (bigSep Finset.univ fun k : Fin 7 => semVal (recvCell c k) 0))

/-- What it ends with: nothing owed, all semaphores at zero, `x` as it was, and the result. -/
def bodyEnd (c : Dev nD) (t : Buf (Elt F) (tM.view.loc (c : Thread nD τ))) (wc : Buf (Elt F) (wcM.view.loc (c : Thread nD τ)))
    (ws : Buf (Elt F) (wsM.view.loc (c : Thread nD τ))) : sProp 𝕄 :=
  iprop((∃ W, owes (c : Thread nD τ) 0 W) ∗ semsZero c
    ∗ (xM.view.loc (c : Thread nD τ) ↦[xM.view.set]{fullShare} xOf m c)
    ∗ (oM.view.loc (c : Thread nD τ) ↦[oM.view.set]{fullShare} outAll m c t wc ws)
    ∗ (∃ f, xvM.view.loc (c : Thread nD τ) ↦[xvM.view.set]{fullShare} f)
    ∗ (∃ f, ovM.view.loc (c : Thread nD τ) ↦[ovM.view.set]{fullShare} f)
    ∗ (∃ f, stM.view.loc (c : Thread nD τ) ↦[stM.view.set]{fullShare} f)
    ∗ (tM.view.loc (c : Thread nD τ) ↦[tM.view.set]{fullShare} t)
    ∗ (wcM.view.loc (c : Thread nD τ) ↦[wcM.view.set]{fullShare} wc)
    ∗ (wsM.view.loc (c : Thread nD τ) ↦[wsM.view.set]{fullShare} ws))

/-- A buffer of the block's shape in eight chunks, each spelt as the kernel spells it. -/
theorem rows_eight {sp : Space} {e : EltTy} (M : Memref sig .tc sp S2x4096x512 e) (c : Dev nD) (f : Buf (Elt F) (M.view.loc (c : Thread nD τ))) :
    (M.view.loc (c : Thread nD τ) ↦[M.view.set]{fullShare} f : sProp 𝕄) = iprop(piece M c 0 inb_S2x4096x512_S2x512x512_0_0_0 f
      ∗ piece M c 512 inb_S2x4096x512_S2x512x512_0_512_0 f
      ∗ piece M c 1024 inb_S2x4096x512_S2x512x512_0_1024_0 f
      ∗ piece M c 1536 inb_S2x4096x512_S2x512x512_0_1536_0 f
      ∗ piece M c 2048 inb_S2x4096x512_S2x512x512_0_2048_0 f
      ∗ piece M c 2560 inb_S2x4096x512_S2x512x512_0_2560_0 f
      ∗ piece M c 3072 inb_S2x4096x512_S2x512x512_0_3072_0 f
      ∗ piece M c 3584 inb_S2x4096x512_S2x512x512_0_3584_0 f) := by
  rw [whole_rows, bigSep_fin8]; rfl

/-- What the body starts from, the buffers in the parts the program moves. -/
def bodyParts (c : Dev nD) (W : Waits sig Unit) (t : Buf (Elt F) (tM.view.loc (c : Thread nD τ))) (wc : Buf (Elt F) (wcM.view.loc (c : Thread nD τ)))
    (ws : Buf (Elt F) (wsM.view.loc (c : Thread nD τ))) (fv : Buf (Elt F) (oM.view.loc (c : Thread nD τ))) (fx : Buf (Elt F) (xvM.view.loc (c : Thread nD τ)))
    (fo : Buf (Elt F) (ovM.view.loc (c : Thread nD τ))) (fs : (cc0_scratch2 : Ref sig .tc).ty.Contents (Elt F)) : sProp 𝕄 :=
  iprop(records m K ∗ levAts L lv ∗ (bigSep Finset.univ fun k : Fin 7 => dutyTok ER (barCell (pl c k)) 0 (op k))
    ∗ (bigSep Finset.univ fun k : Fin 7 => iprop(∃ f, slotPts (F := F) c (pl c k) fullShare f))
    ∗ owes (c : Thread nD τ) (owed c) W
    ∗ (bigSep Finset.univ fun j : Fin 8 => semVal ((c : Thread nD τ), .dma (inS j)) 0)
    ∗ (piece xM c 0 inb_S2x4096x512_S2x512x512_0_0_0 (xOf m c)
      ∗ piece xM c 512 inb_S2x4096x512_S2x512x512_0_512_0 (xOf m c)
      ∗ piece xM c 1024 inb_S2x4096x512_S2x512x512_0_1024_0 (xOf m c)
      ∗ piece xM c 1536 inb_S2x4096x512_S2x512x512_0_1536_0 (xOf m c)
      ∗ piece xM c 2048 inb_S2x4096x512_S2x512x512_0_2048_0 (xOf m c)
      ∗ piece xM c 2560 inb_S2x4096x512_S2x512x512_0_2560_0 (xOf m c)
      ∗ piece xM c 3072 inb_S2x4096x512_S2x512x512_0_3072_0 (xOf m c)
      ∗ piece xM c 3584 inb_S2x4096x512_S2x512x512_0_3584_0 (xOf m c))
    ∗ (piece xvM c 0 inb_S2x4096x512_S2x512x512_0_0_0 fx
      ∗ piece xvM c 512 inb_S2x4096x512_S2x512x512_0_512_0 fx
      ∗ piece xvM c 1024 inb_S2x4096x512_S2x512x512_0_1024_0 fx
      ∗ piece xvM c 1536 inb_S2x4096x512_S2x512x512_0_1536_0 fx
      ∗ piece xvM c 2048 inb_S2x4096x512_S2x512x512_0_2048_0 fx
      ∗ piece xvM c 2560 inb_S2x4096x512_S2x512x512_0_2560_0 fx
      ∗ piece xvM c 3072 inb_S2x4096x512_S2x512x512_0_3072_0 fx
      ∗ piece xvM c 3584 inb_S2x4096x512_S2x512x512_0_3584_0 fx)
    ∗ (piece ovM c 0 inb_S2x4096x512_S2x512x512_0_0_0 fo
      ∗ piece ovM c 512 inb_S2x4096x512_S2x512x512_0_512_0 fo
      ∗ piece ovM c 1024 inb_S2x4096x512_S2x512x512_0_1024_0 fo
      ∗ piece ovM c 1536 inb_S2x4096x512_S2x512x512_0_1536_0 fo
      ∗ piece ovM c 2048 inb_S2x4096x512_S2x512x512_0_2048_0 fo
      ∗ piece ovM c 2560 inb_S2x4096x512_S2x512x512_0_2560_0 fo
      ∗ piece ovM c 3072 inb_S2x4096x512_S2x512x512_0_3072_0 fo
      ∗ piece ovM c 3584 inb_S2x4096x512_S2x512x512_0_3584_0 fo)
    ∗ (piece oM c 0 inb_S2x4096x512_S2x512x512_0_0_0 fv
      ∗ piece oM c 512 inb_S2x4096x512_S2x512x512_0_512_0 fv
      ∗ piece oM c 1024 inb_S2x4096x512_S2x512x512_0_1024_0 fv
      ∗ piece oM c 1536 inb_S2x4096x512_S2x512x512_0_1536_0 fv
      ∗ piece oM c 2048 inb_S2x4096x512_S2x512x512_0_2048_0 fv
      ∗ piece oM c 2560 inb_S2x4096x512_S2x512x512_0_2560_0 fv
      ∗ piece oM c 3072 inb_S2x4096x512_S2x512x512_0_3072_0 fv
      ∗ piece oM c 3584 inb_S2x4096x512_S2x512x512_0_3584_0 fv)
    ∗ (tM.view.loc (c : Thread nD τ) ↦[tM.view.set]{fullShare} t)
    ∗ (wcM.view.loc (c : Thread nD τ) ↦[wcM.view.set]{fullShare} wc)
    ∗ (wsM.view.loc (c : Thread nD τ) ↦[wsM.view.set]{fullShare} ws)
    ∗ slotPts c c fullShare fs
    ∗ (atPos ER (barCell c) 0 ∅ 0
      ∗ (bigSep Finset.univ fun k : Fin 7 => atPos ER (sendCell c k) 0 ∅ 0)
      ∗ (bigSep Finset.univ fun k : Fin 7 => atPos ER (recvCell c k) 0 ∅ 0)
      ∗ (bigSep Finset.univ fun k : Fin 7 => dutyTok ER (sendCell c k) 0 0)
      ∗ (bigSep Finset.univ fun k : Fin 7 => dutyTok ER (recvCell (pl c k) k) 0 0))
    ∗ cred (tallyAt (barCell c) () 7)
    ∗ (bigSep Finset.univ fun k : Fin 7 => cred (tallyAt (recvCell c k) () N))
    ∗ (bigSep Finset.univ fun j : Fin 8 => semVal ((c : Thread nD τ), .dma (outS j)) 0))

theorem bodyStart_parts (c : Dev nD) (W : Waits sig Unit) (t : Buf (Elt F) (tM.view.loc (c : Thread nD τ))) (wc : Buf (Elt F) (wcM.view.loc (c : Thread nD τ)))
    (ws : Buf (Elt F) (wsM.view.loc (c : Thread nD τ))) (fv : Buf (Elt F) (oM.view.loc (c : Thread nD τ))) :
    bodyStart m K c W t wc ws fv ⊢ iprop(∃ fx fo fs, bodyParts m K c W t wc ws fv fx fo fs) := by
  unfold bodyStart linear
  iintro ⟨#HR, ⟨Hab, Has, Har, Ht, Hts, Htr⟩, Hcb, Hcr, #Hlev, HO, Hi, Ho, Hx, Hv, ⟨%fx, Hxv⟩, ⟨%fo, Hov⟩, ⟨%fs, Hst⟩, Ha0, Ha1, Ha2⟩
  ihave Hx := (Entails.of_eq (rows_eight xM c _)) $$ Hx
  ihave Hv := (Entails.of_eq (rows_eight oM c _)) $$ Hv
  ihave Hxv := (Entails.of_eq (rows_eight xvM c _)) $$ Hxv
  ihave Hov := (Entails.of_eq (rows_eight ovM c _)) $$ Hov
  ihave Hst := (table_lent c fs) $$ Hst
  icases Hst with ⟨Hst, Hs⟩
  iexists fx, fo, fs
  unfold bodyParts
  isplitr; · iexact HR
  isplitr; · iexact Hlev
  isplitl [Ht]; · iexact Ht
  isplitl [Hs]; · iexact Hs
  isplitl [HO]; · iexact HO
  isplitl [Hi]; · iexact Hi
  isplitl [Hx]; · iexact Hx
  isplitl [Hxv]; · iexact Hxv
  isplitl [Hov]; · iexact Hov
  isplitl [Hv]; · iexact Hv
  isplitl [Ha0]; · iexact Ha0
  isplitl [Ha1]; · iexact Ha1
  isplitl [Ha2]; · iexact Ha2
  isplitl [Hst]; · iexact Hst
  isplitl [Hab Has Har Hts Htr]
  · isplitl [Hab]; · iexact Hab
    isplitl [Has]; · iexact Has
    isplitl [Har]; · iexact Har
    isplitl [Hts]; · iexact Hts
    iexact Htr
  isplitl [Hcb]; · iexact Hcb
  isplitl [Hcr]; · iexact Hcr
  iexact Ho

set_option maxHeartbeats 4000000 in
/-- The body's run on device `c`, one step per effect in program order. -/
theorem run_body (c : Dev nD) (W : Waits sig Unit) (Q : PUnit → sProp 𝕄) (t : Buf (Elt F) (tM.view.loc (c : Thread nD τ)))
    (wc : Buf (Elt F) (wcM.view.loc (c : Thread nD τ))) (ws : Buf (Elt F) (wsM.view.loc (c : Thread nD τ))) (fv : Buf (Elt F) (oM.view.loc (c : Thread nD τ))) :
    iprop(bodyStart m K c W t wc ws fv ∗ (bodyEnd m c t wc ws -∗ Q ⟨⟩))
      ⊢ wp frame (wpE (defs₀ (F := F)) 𝒱₀ c none) Set.univ (cc0_body (Memref.whole main_arg0) (Memref.isWhole_whole _) (Memref.whole cc0_stg0_0) (Memref.isWhole_whole _) (Memref.whole cc0_stg1_0) (Memref.isWhole_whole _)
        (Memref.whole cc0_stg2_0) (Memref.isWhole_whole _) (Memref.whole main_v1) (Memref.isWhole_whole _)
        (Memref.whole cc0_scratch0) (Memref.isWhole_whole _) (Memref.whole cc0_scratch1) (Memref.isWhole_whole _) (Memref.whole cc0_scratch2) (Memref.isWhole_whole _)
        cc0_scratch3 cc0_scratch4 cc0_scratch5 cc0_scratch6) Q := by
  rw [cc0_body_eq_skeleton]; unfold cc0_body_skel
  refine (sep_mono_left (bodyStart_parts m K c W t wc ws fv)).trans ?_
  iintro ⟨⟨%fx, %fo, %fs, H⟩, Hk⟩
  ihave H := (Entails.of_eq (show bodyParts m K c W t wc ws fv fx fo fs = _ from by
    unfold bodyParts
    rw [bigSep_fin7, bigSep_fin7, bigSep_fin8, bigSep_fin7, bigSep_fin7, bigSep_fin7, bigSep_fin7, bigSep_fin7, bigSep_fin8, owed_split])) $$ H
  icases H with ⟨#HR, #Hlev, ⟨Ht0, Ht1, Ht2, Ht3, Ht4, Ht5, Ht6⟩, ⟨⟨%f0, Hs0⟩, ⟨%f1, Hs1⟩, ⟨%f2, Hs2⟩, ⟨%f3, Hs3⟩, ⟨%f4, Hs4⟩, ⟨%f5, Hs5⟩, ⟨%f6, Hs6⟩⟩, HO, ⟨Hi0, Hi1, Hi2, Hi3, Hi4, Hi5, Hi6, Hi7⟩, ⟨Hx0, Hx1, Hx2, Hx3, Hx4, Hx5, Hx6, Hx7⟩, ⟨Hxv0, Hxv1, Hxv2, Hxv3, Hxv4, Hxv5, Hxv6, Hxv7⟩, ⟨Hov0, Hov1, Hov2, Hov3, Hov4, Hov5, Hov6, Hov7⟩, ⟨Hv0, Hv1, Hv2, Hv3, Hv4, Hv5, Hv6, Hv7⟩, Ha0, Ha1, Ha2, Hst, ⟨Hab, ⟨Has0, Has1, Has2, Has3, Has4, Has5, Has6⟩, ⟨Har0, Har1, Har2, Har3, Har4, Har5, Har6⟩, ⟨Hts0, Hts1, Hts2, Hts3, Hts4, Hts5, Hts6⟩, ⟨Htr0, Htr1, Htr2, Htr3, Htr4, Htr5, Htr6⟩⟩, Hcb, ⟨Hcr0, Hcr1, Hcr2, Hcr3, Hcr4, Hcr5, Hcr6⟩, ⟨Ho0, Ho1, Ho2, Ho3, Ho4, Ho5, Ho6, Ho7⟩⟩
  ihave #HI0 := (known_bar m K (pl c 0)) $$ HR
  ihave #Hr0 := (at_bar m K (pl c 0)) $$ HR
  ihave #HI1 := (known_bar m K (pl c 1)) $$ HR
  ihave #Hr1 := (at_bar m K (pl c 1)) $$ HR
  ihave #HI2 := (known_bar m K (pl c 2)) $$ HR
  ihave #Hr2 := (at_bar m K (pl c 2)) $$ HR
  ihave #HI3 := (known_bar m K (pl c 3)) $$ HR
  ihave #Hr3 := (at_bar m K (pl c 3)) $$ HR
  ihave #HI4 := (known_bar m K (pl c 4)) $$ HR
  ihave #Hr4 := (at_bar m K (pl c 4)) $$ HR
  ihave #HI5 := (known_bar m K (pl c 5)) $$ HR
  ihave #Hr5 := (at_bar m K (pl c 5)) $$ HR
  ihave #HI6 := (known_bar m K (pl c 6)) $$ HR
  ihave #Hr6 := (at_bar m K (pl c 6)) $$ HR
  have h0 := sig_dev0 c
  have h1 := sig_dev1 c
  have h2 := sig_dev2 c
  have h3 := sig_dev3 c
  have h4 := sig_dev4 c
  have h5 := sig_dev5 c
  have h6 := sig_dev6 c
  have hmw : ∀ q : DmaSem sig, q.val < 26 → ((levAts L lv : sProp 𝕄) ⊢ MayWait (c : Thread nD τ) (.dma q) (default : Unit) (owedArr c)) :=
    fun q hq => mayWait_zero_arr c q (by show ¬ 26 ≤ q.val; omega)
  sl_exec
  have hst : ∀ i ∈ (slotM c).view.set, run_body.sl.Hst_w16 m c fs i = stats m i := by
    have hv0 : run_body.sl.v139 m c = chunk m c 0 := load_copied xvM _ _ _ _
    have hv1 : run_body.sl.v157 m c = chunk m c 1 := load_copied xvM _ _ _ _
    have hv2 : run_body.sl.v175 m c = chunk m c 2 := load_copied xvM _ _ _ _
    have hv3 : run_body.sl.v193 m c = chunk m c 3 := load_copied xvM _ _ _ _
    have hv4 : run_body.sl.v211 m c = chunk m c 4 := load_copied xvM _ _ _ _
    have hv5 : run_body.sl.v229 m c = chunk m c 5 := load_copied xvM _ _ _ _
    have hv6 : run_body.sl.v247 m c = chunk m c 6 := load_copied xvM _ _ _ _
    have hv7 : run_body.sl.v265 m c = chunk m c 7 := load_copied xvM _ _ _ _
    have g0 := FilledTo.none m c fs
    have g1 : FilledTo m c (2 * (0 : Fin 8).val + 1) (run_body.sl.Hst_w1 m c fs) := FilledTo.sums m 0 (congrArg _ hv0) g0 (k0_off1_eq c)
    have g2 : FilledTo m c (2 * (0 : Fin 8).val + 2) (run_body.sl.Hst_w2 m c fs) := FilledTo.squares m 0 (congrArg _ hv0) g1 (k0_off2_eq c)
    have g3 : FilledTo m c (2 * (1 : Fin 8).val + 1) (run_body.sl.Hst_w3 m c fs) := FilledTo.sums m 1 ((congrFun pay6_eq _).trans (congrArg _ hv1)) g2 (k0_off3_eq c)
    have g4 : FilledTo m c (2 * (1 : Fin 8).val + 2) (run_body.sl.Hst_w4 m c fs) := FilledTo.squares m 1 ((congrFun pay7_eq _).trans (congrArg _ hv1)) g3 (k0_off4_eq c)
    have g5 : FilledTo m c (2 * (2 : Fin 8).val + 1) (run_body.sl.Hst_w5 m c fs) := FilledTo.sums m 2 ((congrFun pay8_eq _).trans (congrArg _ hv2)) g4 (k0_off5_eq c)
    have g6 : FilledTo m c (2 * (2 : Fin 8).val + 2) (run_body.sl.Hst_w6 m c fs) := FilledTo.squares m 2 ((congrFun pay9_eq _).trans (congrArg _ hv2)) g5 (k0_off6_eq c)
    have g7 : FilledTo m c (2 * (3 : Fin 8).val + 1) (run_body.sl.Hst_w7 m c fs) := FilledTo.sums m 3 ((pay11_eq _).trans (congrArg _ hv3)) g6 (k0_off7_eq c)
    have g8 : FilledTo m c (2 * (3 : Fin 8).val + 2) (run_body.sl.Hst_w8 m c fs) := FilledTo.squares m 3 ((congrFun pay12_eq _).trans (congrArg _ hv3)) g7 (k0_off8_eq c)
    have g9 : FilledTo m c (2 * (4 : Fin 8).val + 1) (run_body.sl.Hst_w9 m c fs) := FilledTo.sums m 4 ((congrFun pay13_eq _).trans (congrArg _ hv4)) g8 (k0_off9_eq c)
    have g10 : FilledTo m c (2 * (4 : Fin 8).val + 2) (run_body.sl.Hst_w10 m c fs) := FilledTo.squares m 4 ((congrFun pay14_eq _).trans (congrArg _ hv4)) g9 (k0_off10_eq c)
    have g11 : FilledTo m c (2 * (5 : Fin 8).val + 1) (run_body.sl.Hst_w11 m c fs) := FilledTo.sums m 5 ((congrFun pay15_eq _).trans (congrArg _ hv5)) g10 (k0_off11_eq c)
    have g12 : FilledTo m c (2 * (5 : Fin 8).val + 2) (run_body.sl.Hst_w12 m c fs) := FilledTo.squares m 5 ((congrFun pay16_eq _).trans (congrArg _ hv5)) g11 (k0_off12_eq c)
    have g13 : FilledTo m c (2 * (6 : Fin 8).val + 1) (run_body.sl.Hst_w13 m c fs) := FilledTo.sums m 6 ((congrFun pay17_eq _).trans (congrArg _ hv6)) g12 (k0_off13_eq c)
    have g14 : FilledTo m c (2 * (6 : Fin 8).val + 2) (run_body.sl.Hst_w14 m c fs) := FilledTo.squares m 6 ((pay19_eq _).trans (congrArg _ hv6)) g13 (k0_off14_eq c)
    have g15 : FilledTo m c (2 * (7 : Fin 8).val + 1) (run_body.sl.Hst_w15 m c fs) := FilledTo.sums m 7 ((congrFun pay20_eq _).trans (congrArg _ hv7)) g14 (k0_off15_eq c)
    have g16 : FilledTo m c (2 * (7 : Fin 8).val + 2) (run_body.sl.Hst_w16 m c fs) := FilledTo.squares m 7 ((congrFun pay21_eq _).trans (congrArg _ hv7)) g15 (k0_off16_eq c)
    exact FilledTo.all m g16
  ihave Hst := (Entails.of_eq (pointsTo_congr hst)) $$ Hst
  ihave Hst := (Entails.of_eq (slot_deal m c)) $$ Hst
  icases Hst with ⟨Hst0, Hst1, Hst2, Hst3, Hst4, Hst5, Hst6⟩
  ihave #HIb := (known_bar m K c) $$ HR
  have hmb : (levAts L lv : sProp 𝕄) ⊢ MayWait (c : Thread nD τ) (.reg barS) (default : Unit) (owedArr c) := mayWait_bar c
  have hsp := owedArr_split c
  rw [hsp] at hmb
  rw [hsp]
  sl_exec
  ihave Hab_pay1 := (Entails.of_eq (bigSep_fin7 (fun k => iprop(∃ f, slotPts (F := F) (pl c k) c fullShare f)))) $$ Hab_pay1
  icases Hab_pay1 with ⟨⟨%p0, Hp0⟩, ⟨%p1, Hp1⟩, ⟨%p2, Hp2⟩, ⟨%p3, Hp3⟩, ⟨%p4, Hp4⟩, ⟨%p5, Hp5⟩, ⟨%p6, Hp6⟩⟩
  iapply (wp_send_peer m K c _ 0 (cpy_dev0 c) p0 _ _) $$ [Hst0 Hp0 HO Hts0 Htr0]
  · isplitr; · iexact HR
    iframe
  iintro ⟨Hcs0, HO⟩
  sl_exec
  iapply (wp_send_peer m K c _ 1 (cpy_dev1 c) p1 _ _) $$ [Hst1 Hp1 HO Hts1 Htr1]
  · isplitr; · iexact HR
    iframe
  iintro ⟨Hcs1, HO⟩
  sl_exec
  iapply (wp_send_peer m K c _ 2 (cpy_dev2 c) p2 _ _) $$ [Hst2 Hp2 HO Hts2 Htr2]
  · isplitr; · iexact HR
    iframe
  iintro ⟨Hcs2, HO⟩
  sl_exec
  iapply (wp_send_peer m K c _ 3 (cpy_dev3 c) p3 _ _) $$ [Hst3 Hp3 HO Hts3 Htr3]
  · isplitr; · iexact HR
    iframe
  iintro ⟨Hcs3, HO⟩
  sl_exec
  iapply (wp_send_peer m K c _ 4 (cpy_dev4 c) p4 _ _) $$ [Hst4 Hp4 HO Hts4 Htr4]
  · isplitr; · iexact HR
    iframe
  iintro ⟨Hcs4, HO⟩
  sl_exec
  iapply (wp_send_peer m K c _ 5 (cpy_dev5 c) p5 _ _) $$ [Hst5 Hp5 HO Hts5 Htr5]
  · isplitr; · iexact HR
    iframe
  iintro ⟨Hcs5, HO⟩
  sl_exec
  iapply (wp_send_peer m K c _ 6 (cpy_dev6 c) p6 _ _) $$ [Hst6 Hp6 HO Hts6 Htr6]
  · isplitr; · iexact HR
    iframe
  iintro ⟨Hcs6, HO⟩
  sl_exec
  iapply (wp_wait_send m K c c 0 _) $$ [Hcs0 HO Has0]
  · isplitr; · iexact HR
    iframe
  iintro ⟨HO, Hzs0, Hst0⟩
  sl_exec
  iapply (wp_wait_send m K c c 1 _) $$ [Hcs1 HO Has1]
  · isplitr; · iexact HR
    iframe
  iintro ⟨HO, Hzs1, Hst1⟩
  sl_exec
  iapply (wp_wait_send m K c c 2 _) $$ [Hcs2 HO Has2]
  · isplitr; · iexact HR
    iframe
  iintro ⟨HO, Hzs2, Hst2⟩
  sl_exec
  iapply (wp_wait_send m K c c 3 _) $$ [Hcs3 HO Has3]
  · isplitr; · iexact HR
    iframe
  iintro ⟨HO, Hzs3, Hst3⟩
  sl_exec
  iapply (wp_wait_send m K c c 4 _) $$ [Hcs4 HO Has4]
  · isplitr; · iexact HR
    iframe
  iintro ⟨HO, Hzs4, Hst4⟩
  sl_exec
  iapply (wp_wait_send m K c c 5 _) $$ [Hcs5 HO Has5]
  · isplitr; · iexact HR
    iframe
  iintro ⟨HO, Hzs5, Hst5⟩
  sl_exec
  iapply (wp_wait_send m K c c 6 _) $$ [Hcs6 HO Has6]
  · isplitr; · iexact HR
    iframe
  iintro ⟨HO, Hzs6, Hst6⟩
  sl_exec
  iapply (wp_wait_recv m K c c 0 _) $$ [Hcr0 HO Har0]
  · isplitr; · iexact HR
    iframe
  iintro ⟨HO, Hzr0, Hsl0⟩
  sl_exec
  iapply (wp_wait_recv m K c c 1 _) $$ [Hcr1 HO Har1]
  · isplitr; · iexact HR
    iframe
  iintro ⟨HO, Hzr1, Hsl1⟩
  sl_exec
  iapply (wp_wait_recv m K c c 2 _) $$ [Hcr2 HO Har2]
  · isplitr; · iexact HR
    iframe
  iintro ⟨HO, Hzr2, Hsl2⟩
  sl_exec
  iapply (wp_wait_recv m K c c 3 _) $$ [Hcr3 HO Har3]
  · isplitr; · iexact HR
    iframe
  iintro ⟨HO, Hzr3, Hsl3⟩
  sl_exec
  iapply (wp_wait_recv m K c c 4 _) $$ [Hcr4 HO Har4]
  · isplitr; · iexact HR
    iframe
  iintro ⟨HO, Hzr4, Hsl4⟩
  sl_exec
  iapply (wp_wait_recv m K c c 5 _) $$ [Hcr5 HO Har5]
  · isplitr; · iexact HR
    iframe
  iintro ⟨HO, Hzr5, Hsl5⟩
  sl_exec
  iapply (wp_wait_recv m K c c 6 _) $$ [Hcr6 HO Har6]
  · isplitr; · iexact HR
    iframe
  iintro ⟨HO, Hzr6, Hsl6⟩
  imod (Rounds.cell_close ER (sched m) (Set.mem_univ (K (c, bI))) (fun h => h) (R := 0 + 1) (duties_later m (barCell c))) $$ [Hab] with Hzb
  · isplitr; · iexact HIb
    iexact Hab
  ihave Hst := (Entails.of_eq (slot_deal m c).symm) $$ [Hst0 Hst1 Hst2 Hst3 Hst4 Hst5 Hst6]
  · iframe
  ihave Hst := (Entails.of_eq (table_received c (stats m))) $$ [Hst Hsl0 Hsl1 Hsl2 Hsl3 Hsl4 Hsl5 Hsl6]
  · iframe
  sl_exec
  have hs : run_body.sl.r_1 c t ws = k0_pay3 t ws := congrArg₂ _ (load_t _ t) (load_ws _ ws)
  have hc : run_body.sl.r c t wc = k0_pay2 t wc := congrArg₂ _ (load_t _ t) (load_wc _ wc)
  have hg : run_body.sl.r_7 c t wc = k0_pay25 (k0_pay2 t wc) := congrArg _ hc
  have hm : run_body.sl.r_5 m = k0_pay23 (stats m) := congrArg _ (load_table _ _)
  have hr : run_body.sl.r_6 m = k0_pay24 (stats m) := congrArg _ (load_table _ _)
  have hx0 : run_body.sl.v497 m c = chunk m c 0 := load_copied xvM _ _ _ _
  have hx1 : run_body.sl.v520 m c = chunk m c 1 := load_copied xvM _ _ _ _
  have hx2 : run_body.sl.v543 m c = chunk m c 2 := load_copied xvM _ _ _ _
  have hx3 : run_body.sl.v566 m c = chunk m c 3 := load_copied xvM _ _ _ _
  have hx4 : run_body.sl.v589 m c = chunk m c 4 := load_copied xvM _ _ _ _
  have hx5 : run_body.sl.v612 m c = chunk m c 5 := load_copied xvM _ _ _ _
  have hx6 : run_body.sl.v635 m c = chunk m c 6 := load_copied xvM _ _ _ _
  have hx7 : run_body.sl.v658 m c = chunk m c 7 := load_copied xvM _ _ _ _
  have e0 : run_body.sl.dma4 m c t wc ws fo = outChunk m c t wc ws 0 :=
    (stored _ _ _ _).trans ((pay26_eq _ _ _ _).trans (outChunk_of m c 0 (congrArg _ (load_table _ _)) (congrArg _ (load_table _ _)) (congrArg _ hc) hs hx0))
  have e1 : run_body.sl.dma7 m c t wc ws fo = outChunk m c t wc ws 1 :=
    (stored _ _ _ _).trans ((pay27_eq _ _ _ _ _).trans (outChunk_of m c 1 hm hr hg hs hx1))
  have e2 : run_body.sl.dma10 m c t wc ws fo = outChunk m c t wc ws 2 :=
    (stored _ _ _ _).trans ((pay29_eq _ _ _ _ _).trans (outChunk_of m c 2 hm hr hg hs hx2))
  have e3 : run_body.sl.dma13 m c t wc ws fo = outChunk m c t wc ws 3 :=
    (stored _ _ _ _).trans ((pay30_eq _ _ _ _ _).trans (outChunk_of m c 3 hm hr hg hs hx3))
  have e4 : run_body.sl.dma16 m c t wc ws fo = outChunk m c t wc ws 4 :=
    (stored _ _ _ _).trans ((pay32_eq _ _ _ _ _).trans (outChunk_of m c 4 hm hr hg hs hx4))
  have e5 : run_body.sl.dma19 m c t wc ws fo = outChunk m c t wc ws 5 :=
    (stored _ _ _ _).trans ((pay33_eq _ _ _ _ _).trans (outChunk_of m c 5 hm hr hg hs hx5))
  have e6 : run_body.sl.dma22 m c t wc ws fo = outChunk m c t wc ws 6 :=
    (stored _ _ _ _).trans ((pay34_eq _ _ _ _ _).trans (outChunk_of m c 6 hm hr hg hs hx6))
  have e7 : run_body.sl.dma25 m c t wc ws fo = outChunk m c t wc ws 7 :=
    (stored _ _ _ _).trans ((pay37_eq _ _ _ _ _).trans (outChunk_of m c 7 hm hr hg hs hx7))
  rw [wp_ret]; imodintro
  ihave Hv0 := (Entails.of_eq (pointsTo_congr (copied_out m c t wc ws 0 _ _ e0))) $$ Hv0
  ihave Hv1 := (Entails.of_eq (pointsTo_congr (copied_out m c t wc ws 1 _ _ e1))) $$ Hv1
  ihave Hv2 := (Entails.of_eq (pointsTo_congr (copied_out m c t wc ws 2 _ _ e2))) $$ Hv2
  ihave Hv3 := (Entails.of_eq (pointsTo_congr (copied_out m c t wc ws 3 _ _ e3))) $$ Hv3
  ihave Hv4 := (Entails.of_eq (pointsTo_congr (copied_out m c t wc ws 4 _ _ e4))) $$ Hv4
  ihave Hv5 := (Entails.of_eq (pointsTo_congr (copied_out m c t wc ws 5 _ _ e5))) $$ Hv5
  ihave Hv6 := (Entails.of_eq (pointsTo_congr (copied_out m c t wc ws 6 _ _ e6))) $$ Hv6
  ihave Hv7 := (Entails.of_eq (pointsTo_congr (copied_out m c t wc ws 7 _ _ e7))) $$ Hv7
  ihave Hv := (Entails.of_eq (rows_eight oM c (outAll m c t wc ws)).symm) $$ [Hv0 Hv1 Hv2 Hv3 Hv4 Hv5 Hv6 Hv7]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    iexact Hv7
  ihave Hx := (Entails.of_eq (rows_eight xM c (xOf m c)).symm) $$ [Hx0 Hx1 Hx2 Hx3 Hx4 Hx5 Hx6 Hx7]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  ihave Hxv := (rows_join xvM c) $$ [Hxv0 Hxv1 Hxv2 Hxv3 Hxv4 Hxv5 Hxv6 Hxv7]
  · isplitl [Hxv0]; · iexists _; iexact Hxv0
    isplitl [Hxv1]; · iexists _; iexact Hxv1
    isplitl [Hxv2]; · iexists _; iexact Hxv2
    isplitl [Hxv3]; · iexists _; iexact Hxv3
    isplitl [Hxv4]; · iexists _; iexact Hxv4
    isplitl [Hxv5]; · iexists _; iexact Hxv5
    isplitl [Hxv6]; · iexists _; iexact Hxv6
    iexists _; iexact Hxv7
  ihave Hov := (rows_join ovM c) $$ [Hov0 Hov1 Hov2 Hov3 Hov4 Hov5 Hov6 Hov7]
  · isplitl [Hov0]; · iexists _; iexact Hov0
    isplitl [Hov1]; · iexists _; iexact Hov1
    isplitl [Hov2]; · iexists _; iexact Hov2
    isplitl [Hov3]; · iexists _; iexact Hov3
    isplitl [Hov4]; · iexists _; iexact Hov4
    isplitl [Hov5]; · iexists _; iexact Hov5
    isplitl [Hov6]; · iexists _; iexact Hov6
    iexists _; iexact Hov7
  iapply Hk
  unfold bodyEnd semsZero
  isplitl [HO]; · iexists _; iexact HO
  isplitl [Hzb Hi0 Ho0 Hi1 Ho1 Hi2 Ho2 Hi3 Ho3 Hi4 Ho4 Hi5 Ho5 Hi6 Ho6 Hi7 Ho7 Hzs0 Hzr0 Hzs1 Hzr1 Hzs2 Hzr2 Hzs3 Hzr3 Hzs4 Hzr4 Hzs5 Hzr5 Hzs6 Hzr6]
  · rw [bigSep_fin7, bigSep_fin7, bigSep_fin8, bigSep_fin8]
    isplitl [Hzb]; · iexact Hzb
    isplitl [Hi0 Hi1 Hi2 Hi3 Hi4 Hi5 Hi6 Hi7]
    · isplitl [Hi0]; · iexact Hi0
      isplitl [Hi1]; · iexact Hi1
      isplitl [Hi2]; · iexact Hi2
      isplitl [Hi3]; · iexact Hi3
      isplitl [Hi4]; · iexact Hi4
      isplitl [Hi5]; · iexact Hi5
      isplitl [Hi6]; · iexact Hi6
      iexact Hi7
    isplitl [Ho0 Ho1 Ho2 Ho3 Ho4 Ho5 Ho6 Ho7]
    · isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      iexact Ho7
    isplitl [Hzs0 Hzs1 Hzs2 Hzs3 Hzs4 Hzs5 Hzs6]
    · isplitl [Hzs0]; · iexact Hzs0
      isplitl [Hzs1]; · iexact Hzs1
      isplitl [Hzs2]; · iexact Hzs2
      isplitl [Hzs3]; · iexact Hzs3
      isplitl [Hzs4]; · iexact Hzs4
      isplitl [Hzs5]; · iexact Hzs5
      iexact Hzs6
    isplitl [Hzr0]; · iexact Hzr0
    isplitl [Hzr1]; · iexact Hzr1
    isplitl [Hzr2]; · iexact Hzr2
    isplitl [Hzr3]; · iexact Hzr3
    isplitl [Hzr4]; · iexact Hzr4
    isplitl [Hzr5]; · iexact Hzr5
    iexact Hzr6
  isplitl [Hx]; · iexact Hx
  isplitl [Hv]; · iexact Hv
  isplitl [Hxv]; · iexact Hxv
  isplitl [Hov]; · iexact Hov
  isplitl [Hst]; · iexists _; iexact Hst
  isplitl [Ha0]; · iexact Ha0
  isplitl [Ha1]; · iexact Ha1
  iexact Ha2

end Body
end Cert.Exchange
end
-- ==== Proof.Region.lean ====
/-
  The kernel region of one device: what holds before and after its single point, and the body's obligation there.
-/
module

public import proofs.«01_k».proof.Proof.Body

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staged operands: `t`, the block of `W_scale` and the block of `W_shift` of device `c`. -/
abbrev tIn (c : Dev nD) : (cc0_stg0_0 : Ref sig .tc).ty.Contents (Elt F) := iblk m c 0 t0_0
abbrev wcIn (c : Dev nD) : (cc0_stg1_0 : Ref sig .tc).ty.Contents (Elt F) := iblk m c 1 t0_0
abbrev wsIn (c : Dev nD) : (cc0_stg2_0 : Ref sig .tc).ty.Contents (Elt F) := iblk m c 2 t0_0

/-- The result of device `c`, from the initial memory. -/
abbrev resultOf (c : Dev nD) : (main_v1 : Ref sig .tc).ty.Contents (Elt F) := outAll m c (tIn m c) (wcIn m c) (wsIn m c)

/-- The kernel's semaphores other than the barrier: eight for the copies in, eight for the copies out, seven departures, seven arrivals. -/
abbrev osem : Fin 30 → SemLoc sig := fun i => .dma ⟨3 + i.val, by have := i.isLt; change 3 + i.val < 33; omega⟩

/-- The three buffers private to the kernel, each at some contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

/-- The copies' semaphores at zero. -/
def copySems (c : Dev nD) : sProp 𝕄 :=
  iprop((bigSep Finset.univ fun j : Fin 8 => semVal ((c : Thread nD τ), .dma (inS j)) 0)
    ∗ (bigSep Finset.univ fun j : Fin 8 => semVal ((c : Thread nD τ), .dma (outS j)) 0))

/-- Device `c`'s part of the protocol, with the semaphores of its copies. -/
def G' (c : Dev nD) : sProp 𝕄 := iprop(∃ K, records m K ∗ linear c ∗ copySems c)

/-- What the region starts from, apart from the private buffers. -/
def start (c : Dev nD) : sProp 𝕄 :=
  iprop(G' m c ∗ cred (tallyAt (barCell c) () 7) ∗ (bigSep Finset.univ fun k : Fin 7 => cred (tallyAt (recvCell c k) () N)) ∗ levAts L lv
    ∗ (((c : Thread nD τ).loc main_arg0) ↦{fullShare} m ((c : Thread nD τ).loc main_arg0))
    ∗ (((c : Thread nD τ).loc main_v1) ↦{fullShare} m ((c : Thread nD τ).loc main_v1)))

def Φ₀ (c : Dev nD) : sProp 𝕄 := iprop(start m c ∗ scratch c)

/-- What the region leaves: every semaphore at zero, `x` unchanged, the result computed. -/
def Φ₁ (c : Dev nD) : sProp 𝕄 :=
  iprop(semsZero c
    ∗ ((((c : Thread nD τ).loc main_arg0) ↦{fullShare} m ((c : Thread nD τ).loc main_arg0))
      ∗ (((c : Thread nD τ).loc main_v1) ↦{fullShare} resultOf m c)) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tIn m c
    | ⟨1, _⟩ => wcIn m c
    | ⟨2, _⟩ => wsIn m c
  Φ t := match t with
    | ⟨0, _⟩ => Φ₀ m c
    | ⟨_ + 1, _⟩ => Φ₁ m c
  q _ := fullShare
  owed t := match t with
    | ⟨0, _⟩ => owed c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl
theorem fetch_2 (t : Fin cfg0.N) : (cfg0.win (2 : Fin 3)).fetch t = true := by rw [fin_N0 t]; rfl

/-- Buffer `b` of device `c`, whole, at contents `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A whole buffer, as the body names it. -/
theorem whole_pts (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) := by
  simp only [Memref.view_whole, View.set_whole]

def pre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def post (c : Dev nD) : sProp 𝕄 :=
  iprop(Φ₁ m c ∗ (dats m ρ 0 c).owesAt () t0_0.succ ∗ stg c cc0_stg0_0 (tIn m c) ∗ stg c cc0_stg1_0 (wcIn m c) ∗ stg c cc0_stg2_0 (wsIn m c))

theorem start_body (c : Dev nD) (K : Dev nD × CI → ℕ) (W : Waits sig Unit) :
    iprop((records m K ∗ linear c ∗ copySems c) ∗ cred (tallyAt (barCell c) () 7) ∗ (bigSep Finset.univ fun k : Fin 7 => cred (tallyAt (recvCell c k) () N)) ∗ levAts L lv
      ∗ (((c : Thread nD τ).loc main_arg0) ↦{fullShare} m ((c : Thread nD τ).loc main_arg0))
      ∗ (((c : Thread nD τ).loc main_v1) ↦{fullShare} m ((c : Thread nD τ).loc main_v1)) ∗ scratch c ∗ owes (c : Thread nD τ) (owed c) W
      ∗ (((c : Thread nD τ).loc cc0_stg0_0) ↦{fullShare} tIn m c) ∗ (((c : Thread nD τ).loc cc0_stg1_0) ↦{fullShare} wcIn m c)
      ∗ (((c : Thread nD τ).loc cc0_stg2_0) ↦{fullShare} wsIn m c))
    ⊢ bodyStart m K c W (tIn m c) (wcIn m c) (wsIn m c) (m ((c : Thread nD τ).loc main_v1)) := by
  unfold bodyStart scratch copySems
  rw [whole_pts c main_arg0, whole_pts c main_v1, whole_pts c cc0_stg0_0, whole_pts c cc0_stg1_0, whole_pts c cc0_stg2_0]
  rw [show (fun f => (xvM.view.loc (c : Thread nD τ) ↦[xvM.view.set]{fullShare} f : sProp 𝕄)) = fun f => (((c : Thread nD τ).loc cc0_scratch0) ↦{fullShare} f) from funext fun f => whole_pts c cc0_scratch0 f,
    show (fun f => (ovM.view.loc (c : Thread nD τ) ↦[ovM.view.set]{fullShare} f : sProp 𝕄)) = fun f => (((c : Thread nD τ).loc cc0_scratch1) ↦{fullShare} f) from funext fun f => whole_pts c cc0_scratch1 f,
    show (fun f => (stM.view.loc (c : Thread nD τ) ↦[stM.view.set]{fullShare} f : sProp 𝕄)) = fun f => (((c : Thread nD τ).loc cc0_scratch2) ↦{fullShare} f) from funext fun f => whole_pts c cc0_scratch2 f]
  iintro ⟨⟨Hrec, Hlin, Hin, Hout⟩, Hcb, Hcr, Hlev, Hx, Hv, ⟨H0, H1, H2⟩, HO, Ht, Hwc, Hws⟩
  isplitl [Hrec]; · iexact Hrec
  isplitl [Hlin]; · iexact Hlin
  isplitl [Hcb]; · iexact Hcb
  isplitl [Hcr]; · iexact Hcr
  isplitl [Hlev]; · iexact Hlev
  isplitl [HO]; · iexact HO
  isplitl [Hin]; · iexact Hin
  isplitl [Hout]; · iexact Hout
  isplitl [Hx]; · iexact Hx
  isplitl [Hv]; · iexact Hv
  isplitl [H0]; · iexact H0
  isplitl [H1]; · iexact H1
  isplitl [H2]; · iexact H2
  isplitl [Ht]; · iexact Ht
  isplitl [Hwc]; · iexact Hwc
  iexact Hws

theorem end_body (c : Dev nD) : bodyEnd m c (tIn m c) (wcIn m c) (wsIn m c) ⊢ post m ρ c := by
  unfold bodyEnd post Φ₁ scratch stg Dat.owesAt Pipeline.owesWithin
  rw [show (dats m ρ 0 c).owed t0_0.succ = 0 from rfl]
  rw [whole_pts c main_arg0, whole_pts c main_v1, whole_pts c cc0_stg0_0, whole_pts c cc0_stg1_0, whole_pts c cc0_stg2_0]
  rw [show (fun f => (xvM.view.loc (c : Thread nD τ) ↦[xvM.view.set]{fullShare} f : sProp 𝕄)) = fun f => (((c : Thread nD τ).loc cc0_scratch0) ↦{fullShare} f) from funext fun f => whole_pts c cc0_scratch0 f,
    show (fun f => (ovM.view.loc (c : Thread nD τ) ↦[ovM.view.set]{fullShare} f : sProp 𝕄)) = fun f => (((c : Thread nD τ).loc cc0_scratch1) ↦{fullShare} f) from funext fun f => whole_pts c cc0_scratch1 f,
    show (fun f => (stM.view.loc (c : Thread nD τ) ↦[stM.view.set]{fullShare} f : sProp 𝕄)) = fun f => (((c : Thread nD τ).loc cc0_scratch2) ↦{fullShare} f) from funext fun f => whole_pts c cc0_scratch2 f]
  iintro ⟨⟨%W, HO⟩, Hz, Hx, Hv, H0, H1, H2, Ht, Hwc, Hws⟩
  isplitl [Hz Hx Hv H0 H1 H2]
  · isplitl [Hz]; · iexact Hz
    isplitl [Hx Hv]
    · isplitl [Hx]; · iexact Hx
      iexact Hv
    isplitl [H0]; · iexact H0
    isplitl [H1]; · iexact H1
    iexact H2
  isplitl [HO]
  · iexists W
    isplitr; · ipureintro; exact fun _ _ => Or.inl trivial
    iexact HO
  isplitl [Ht]
  · iexists _; isplitr; · (ipureintro; rfl)
    iexact Ht
  isplitl [Hwc]
  · iexists _; isplitr; · (ipureintro; rfl)
    iexact Hwc
  iexists _; isplitr; · (ipureintro; rfl)
  iexact Hws

theorem sound_body (c : Dev nD) :
    pre m ρ c ⊢ wp frame (wpE (defs₀ (F := F)) 𝒱₀ c none) Set.univ
      (cc0_body (Memref.whole main_arg0) (Memref.isWhole_whole _) (Memref.whole cc0_stg0_0) (Memref.isWhole_whole _) (Memref.whole cc0_stg1_0) (Memref.isWhole_whole _)
        (Memref.whole cc0_stg2_0) (Memref.isWhole_whole _) (Memref.whole main_v1) (Memref.isWhole_whole _) (Memref.whole cc0_scratch0) (Memref.isWhole_whole _)
        (Memref.whole cc0_scratch1) (Memref.isWhole_whole _) (Memref.whole cc0_scratch2) (Memref.isWhole_whole _) cc0_scratch3 cc0_scratch4 cc0_scratch5 cc0_scratch6)
      (fun _ => post m ρ c) := by
  unfold pre Φ₀ start G' stg Dat.owesAt Pipeline.owesWithin
  rw [show (dats m ρ 0 c).owed t0_0.castSucc = owed c from rfl]
  iintro ⟨⟨⟨⟨%K, HG⟩, Hcb, Hcr, Hlev, Hx, Hv⟩, Hscr⟩, ⟨%W, %hW, HO⟩, ⟨%d0, %g0, %hg0, Ht⟩, ⟨%d1, %g1, %hg1, Hwc⟩, ⟨%d2, %g2, %hg2, Hws⟩⟩
  have h0 : g0 = tIn m c := by rw [hg0]; unfold Dat.before; rw [if_pos (fetch_0 t0_0)]; rfl
  have h1 : g1 = wcIn m c := by rw [hg1]; unfold Dat.before; rw [if_pos (fetch_1 t0_0)]; rfl
  have h2 : g2 = wsIn m c := by rw [hg2]; unfold Dat.before; rw [if_pos (fetch_2 t0_0)]; rfl
  subst h0 h1 h2
  iapply (run_body m K c W (fun _ => post m ρ c) (tIn m c) (wcIn m c) (wsIn m c) (m ((c : Thread nD τ).loc main_v1)))
  isplitl
  · iapply (start_body m c K W)
    isplitl [HG]; · iexact HG
    isplitl [Hcb]; · iexact Hcb
    isplitl [Hcr]; · iexact Hcr
    isplitl [Hlev]; · iexact Hlev
    isplitl [Hx]; · iexact Hx
    isplitl [Hv]; · iexact Hv
    isplitl [Hscr]; · iexact Hscr
    isplitl [HO]; · iexact HO
    isplitl [Ht]; · iexact Ht
    isplitl [Hwc]; · iexact Hwc
    iexact Hws
  · iintro H
    iapply (end_body m ρ c)
    iexact H

/-- The body's obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

end Cert.Exchange

end
-- ==== Proof.Deal.lean ====
/-
  Before the devices start: the cells of all eight, their invariants, and the duties dealt to the devices that pay them.
-/
module

public import proofs.«01_k».proof.Proof.Region

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duties -/

theorem over_sum {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

/-- A device's cells one kind after another. -/
theorem over_CI (Φ : CI → sProp 𝕄) :
    bigSep Finset.univ Φ = iprop(Φ bI ∗ (bigSep Finset.univ fun k : Fin 7 => Φ (sI k)) ∗ bigSep Finset.univ fun k : Fin 7 => Φ (rI k)) := by
  rw [over_sum, over_sum, bigSep_univ_of_subsingleton ()]

theorem csem_injective : Function.Injective csem := by
  rintro (_ | k | k) (_ | k' | k') h
  · rfl
  · cases h
  · cases h
  · cases h
  · have := congrArg Fin.val (SemLoc.dma.inj h)
    rw [sendS_val, sendS_val] at this
    rw [show k = k' from Fin.ext (by omega)]
  · have := congrArg Fin.val (SemLoc.dma.inj h)
    rw [sendS_val, recvS_val] at this
    omega
  · cases h
  · have := congrArg Fin.val (SemLoc.dma.inj h)
    rw [sendS_val, recvS_val] at this
    omega
  · have := congrArg Fin.val (SemLoc.dma.inj h)
    rw [recvS_val, recvS_val] at this
    rw [show k = k' from Fin.ext (by omega)]

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

/-- All cells of the exchange. -/
def cells : Finset (GSem nD τ sig) := Finset.univ.map ⟨kcell, kcell_injective⟩

/-- A device's duties, as first made: seven on its barrier, one on each send and each receive cell. -/
abbrev DI : Type := Fin 7 ⊕ (Fin 7 ⊕ Fin 7)
abbrev tokOf (x : Dev nD × DI) : GSem nD τ sig × ℕ × Fin 7 := match x.2 with
  | .inl k => (barCell x.1, 0, k)
  | .inr (.inl k) => (sendCell x.1 k, 0, 0)
  | .inr (.inr k) => (recvCell x.1 k, 0, 0)

theorem tokOf_injective : Function.Injective tokOf := by
  rintro ⟨c, i⟩ ⟨c', i'⟩ h
  have hc : (tokOf (c, i)).1.1.1 = (tokOf (c', i')).1.1.1 := by rw [h]
  have hs : (tokOf (c, i)).1.2 = (tokOf (c', i')).1.2 := by rw [h]
  have hd : (tokOf (c, i)).2.2 = (tokOf (c', i')).2.2 := by rw [h]
  rcases i with k | k | k <;> rcases i' with k' | k' | k'
  · have h1 : c = c' := hc
    have h2 : k = k' := hd
    rw [h1, h2]
  · cases hs
  · cases hs
  · cases hs
  · have h1 : c = c' := hc
    have h2 : sI k = sI k' := csem_injective hs
    rw [h1]; exact congrArg (fun k => (c', Sum.inr (Sum.inl k))) (Sum.inl.inj (Sum.inr.inj h2))
  · have h2 : sI k = rI k' := csem_injective hs
    cases h2
  · cases hs
  · have h2 : rI k = sI k' := csem_injective hs
    cases h2
  · have h1 : c = c' := hc
    have h2 : rI k = rI k' := csem_injective hs
    rw [h1]; exact congrArg (fun k => (c', Sum.inr (Sum.inr k))) (Sum.inr.inj (Sum.inr.inj h2))

def duties : Finset (GSem nD τ sig × ℕ × Fin 7) := Finset.univ.map ⟨tokOf, tokOf_injective⟩

def u₀ : UU :=
  (initOf (Pipeline.cells cfgs cellOf_inj) (Pipeline.launchToks cfgs cellOf_inj), (initOf cells duties, 1))

/-- The duty tokens of device `c`'s own cells. -/
def toks (c : Dev nD) : sProp 𝕄 :=
  iprop((bigSep Finset.univ fun k : Fin 7 => dutyTok ER (barCell c) 0 k)
    ∗ (bigSep Finset.univ fun k : Fin 7 => dutyTok ER (sendCell c k) 0 0)
    ∗ (bigSep Finset.univ fun k : Fin 7 => dutyTok ER (recvCell c k) 0 0))

/-- What each device is dealt first. -/
def G (c : Dev nD) : sProp 𝕄 :=
  iprop((bigSep Finset.univ fun i : CI => roundState ER (sched m) (kcell (c, i)) 0)
    ∗ (bigSep Finset.univ fun i : CI => iprop(atPos ER (kcell (c, i)) 0 ∅ 0 ∗ reached ER (kcell (c, i)) 0)) ∗ toks c)

theorem over_cells (Φ : GSem nD τ sig → sProp 𝕄) :
    bigSep cells Φ = bigSep Finset.univ fun c : Dev nD => bigSep Finset.univ fun i : CI => Φ (kcell (c, i)) := by
  unfold cells; rw [bigSep_map, bigSep_univ_prod]; rfl

theorem over_duties : bigSep duties (fun x => (dutyTok ER x.1 x.2.1 x.2.2 : sProp 𝕄)) = bigSep Finset.univ fun c : Dev nD => toks c := by
  unfold duties; rw [bigSep_map, bigSep_univ_prod]
  exact bigSep_congr fun c _ => by unfold toks; rw [bigSep_univ_sum, bigSep_univ_sum]; rfl

theorem fund_cells : BI.own (ER (initOf cells duties)) ⊢ (|==> bigSep Finset.univ (G m) : sProp 𝕄) := by
  iintro HX
  imod (Rounds.fund ER (sched m) cells duties) $$ HX with ⟨Hst, Hr, Hat, Htok⟩
  imodintro
  ihave Hst' := (Entails.of_eq (over_cells fun g => roundState ER (sched m) g 0)) $$ Hst
  ihave Hat' := (Entails.of_eq (over_cells (F := F) fun g => atPos ER g 0 ∅ 0)) $$ Hat
  ihave Hr' := (Entails.of_eq (over_cells (F := F) fun g => reached ER g 0)) $$ Hr
  ihave Htok' := (Entails.of_eq (over_duties (F := F))) $$ Htok
  unfold G; simp only [bigSep_sep']
  isplitl [Hst']; · iexact Hst'
  isplitl [Hat' Hr']
  · isplitl [Hat'] <;> iassumption
  iexact Htok'

/-! ## Semaphores -/

/-- The thirty semaphores of the kernel, by what they count. -/
def split30 : (Fin 8 ⊕ Fin 8) ⊕ (Fin 7 ⊕ Fin 7) ≃ Fin 30 := (Equiv.sumCongr finSumFinEquiv finSumFinEquiv).trans finSumFinEquiv

theorem osem_in (j : Fin 8) : osem (split30 (.inl (.inl j))) = .dma (inS j) := congrArg SemLoc.dma (by revert j; decide)
theorem osem_out (j : Fin 8) : osem (split30 (.inl (.inr j))) = .dma (outS j) := congrArg SemLoc.dma (by revert j; decide)
theorem osem_send (k : Fin 7) : osem (split30 (.inr (.inl k))) = .dma (sendS k) := congrArg SemLoc.dma (by revert k; decide)
theorem osem_recv (k : Fin 7) : osem (split30 (.inr (.inr k))) = .dma (recvS k) := congrArg SemLoc.dma (by revert k; decide)

theorem ownSems0_eq (c : Dev nD) : (Pipeline.ownSems0 (Ix := Unit) (Name := ℕ) (U := UU) (Lvl := ℕ) (Val := Elt F) (τ := τ) osem c : sProp 𝕄)
    = iprop(((bigSep Finset.univ fun j : Fin 8 => semVal ((c : Thread nD τ), .dma (inS j)) 0)
        ∗ (bigSep Finset.univ fun j : Fin 8 => semVal ((c : Thread nD τ), .dma (outS j)) 0))
      ∗ ((bigSep Finset.univ fun k : Fin 7 => semVal (sendCell c k) 0) ∗ (bigSep Finset.univ fun k : Fin 7 => semVal (recvCell c k) 0))) := by
  unfold Pipeline.ownSems0
  rw [bigSep_univ_equiv split30, over_sum, over_sum, over_sum]
  simp only [osem_in, osem_out, osem_send, osem_recv]

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun i : CI => semVal (kcell (c, i)) 0) ∗ copySems c : sProp 𝕄) := by
  rw [ownSems0_eq, unscopedSems0_eq, over_CI]
  unfold copySems
  iintro ⟨⟨⟨Hi, Ho⟩, Hs, Hr⟩, Hb⟩
  isplitl [Hb Hs Hr]
  · isplitl [Hb]; · iexact Hb
    isplitl [Hs]; · iexact Hs
    iexact Hr
  isplitl [Hi]; · iexact Hi
  iexact Ho

/-! ## Invariants, and the duties dealt -/

/-- A device's cells under invariants, its positions, its duties and its copies' semaphores. -/
def made (c : Dev nD) : sProp 𝕄 :=
  iprop((bigSep Finset.univ fun i : CI => iprop(∃ κ : ℕ, cellInv ER (sched m) κ (kcell (c, i))))
    ∗ (bigSep Finset.univ fun i : CI => iprop(atPos ER (kcell (c, i)) 0 ∅ 0 ∗ reached ER (kcell (c, i)) 0)) ∗ toks c ∗ copySems c)

theorem make (c : Dev nD) :
    iprop(Pipeline.ownSems0 (Ix := Unit) (Name := ℕ) (U := UU) (Lvl := ℕ) (Val := Elt F) (τ := τ) osem c ∗ unscopedSems0 c ∗ G m c)
      ⊢ |={Set.univ}=> made m c := by
  unfold G made
  iintro ⟨Hos, Hus, Hst, Hat, Htok⟩
  ihave Hv := (sems0_eq (F := F) c) $$ [Hos Hus]
  · isplitl [Hos] <;> iassumption
  icases Hv with ⟨Hv, Hcp⟩
  imod (show iprop((bigSep Finset.univ fun i : CI => semVal (kcell (c, i)) 0) ∗ bigSep Finset.univ fun i : CI => roundState ER (sched m) (kcell (c, i)) 0)
      ⊢ (|={Set.univ}=> bigSep Finset.univ fun i : CI => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hcp

/-- Duty `k` of a barrier goes to the peer that pays it, and to the place where that peer counts it. -/
def toPayer : Dev nD × Fin 7 ≃ Dev nD × Fin 7 where
  toFun x := (pl x.1 x.2, op x.2)
  invFun x := (pl x.1 x.2, op x.2)
  left_inv x := Prod.ext (pl_pl x.1 x.2) (op_op x.2)
  right_inv x := Prod.ext (pl_pl x.1 x.2) (op_op x.2)
/-- An arrival's duty goes to the device the copy leaves from. -/
def toSender : Dev nD × Fin 7 ≃ Dev nD × Fin 7 where
  toFun x := (pl x.1 x.2, x.2)
  invFun x := (mi x.1 x.2, x.2)
  left_inv x := Prod.ext (mi_pl x.1 x.2) rfl
  right_inv x := Prod.ext (pl_mi x.1 x.2) rfl

/-- The duties device `c` pays. -/
def payToks (c : Dev nD) : sProp 𝕄 :=
  iprop((bigSep Finset.univ fun k : Fin 7 => dutyTok ER (barCell (pl c k)) 0 (op k))
    ∗ (bigSep Finset.univ fun k : Fin 7 => dutyTok ER (sendCell c k) 0 0)
    ∗ (bigSep Finset.univ fun k : Fin 7 => dutyTok ER (recvCell (pl c k) k) 0 0))

theorem dealt : (bigSep Finset.univ fun c : Dev nD => (toks c : sProp 𝕄)) ⊢ bigSep Finset.univ fun c : Dev nD => payToks c := by
  unfold toks payToks
  rw [bigSep_sep', bigSep_sep', bigSep_sep', bigSep_sep']
  have h1 : (bigSep Finset.univ fun c : Dev nD => bigSep Finset.univ fun k : Fin 7 => (dutyTok ER (barCell c) 0 k : sProp 𝕄))
      = bigSep Finset.univ fun c : Dev nD => bigSep Finset.univ fun k : Fin 7 => dutyTok ER (barCell (pl c k)) 0 (op k) := by
    rw [← bigSep_univ_prod (fun x : Dev nD × Fin 7 => (dutyTok ER (barCell x.1) 0 x.2 : sProp 𝕄)), bigSep_univ_equiv toPayer, bigSep_univ_prod]; rfl
  have h2 : (bigSep Finset.univ fun c : Dev nD => bigSep Finset.univ fun k : Fin 7 => (dutyTok ER (recvCell c k) 0 0 : sProp 𝕄))
      = bigSep Finset.univ fun c : Dev nD => bigSep Finset.univ fun k : Fin 7 => dutyTok ER (recvCell (pl c k) k) 0 0 := by
    rw [← bigSep_univ_prod (fun x : Dev nD × Fin 7 => (dutyTok ER (recvCell x.1 x.2) 0 0 : sProp 𝕄)), bigSep_univ_equiv toSender, bigSep_univ_prod]; rfl
  rw [h1, h2]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_of (c : Dev nD) : iprop((bigSep Finset.univ fun i : CI => atPos ER (kcell (c, i)) 0 ∅ 0) ∗ payToks c ∗ copySems c : sProp 𝕄)
    ⊢ iprop(linear c ∗ copySems c) := by
  rw [over_CI]
  unfold linear payToks
  iintro ⟨⟨Hb, Hs, Hr⟩, ⟨Htb, Hts, Htr⟩, Hcp⟩
  isplitl [Hb Hs Hr Htb Hts Htr]
  · isplitl [Hb]; · iexact Hb
    isplitl [Hs]; · iexact Hs
    isplitl [Hr]; · iexact Hr
    isplitl [Htb]; · iexact Htb
    isplitl [Hts]; · iexact Hts
    iexact Htr
  iexact Hcp

theorem regroup : (bigSep Finset.univ fun c : Dev nD => made m c : sProp 𝕄) ⊢ bigSep Finset.univ (G' m) := by
  unfold made
  rw [bigSep_sep', bigSep_sep', bigSep_sep', ← bigSep_univ_prod (fun x : Dev nD × CI => iprop(∃ κ : ℕ, cellInv ER (sched m) κ (kcell x))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun x : Dev nD × CI => (reached ER (kcell x) 0 : sProp 𝕄))]
  iintro ⟨HI, ⟨Hat, #HR⟩, Htok, Hcp⟩
  ihave HK := (BI.bigSep_exists_pi Finset.univ (fun (x : Dev nD × CI) (κ : ℕ) => (cellInv ER (sched m) κ (kcell x) : sProp 𝕄))) $$ HI
  icases HK with ⟨%K, #HI⟩
  ihave Htk := (dealt (F := F)) $$ Htok
  iapply (with_persistent (R := records m K) (Φ := fun c : Dev nD => iprop(linear c ∗ copySems c)) fun c _ =>
    show iprop(records m K ∗ linear c ∗ copySems c) ⊢ G' m c from by
      unfold G'; iintro H; iexists K; iexact H)
  isplitr
  · unfold records; isplitl; · iexact HI
    iexact HR
  · iapply ((show iprop((bigSep Finset.univ fun c : Dev nD => bigSep Finset.univ fun i : CI => (atPos ER (kcell (c, i)) 0 ∅ 0 : sProp 𝕄))
        ∗ (bigSep Finset.univ fun c : Dev nD => payToks c) ∗ bigSep Finset.univ fun c : Dev nD => copySems c)
        ⊢ bigSep Finset.univ fun c : Dev nD => iprop(linear c ∗ copySems c) from by
      rw [← bigSep_sep', ← bigSep_sep']
      exact bigSep_mono fun c _ => linear_of c))
    isplitl [Hat]; · iexact Hat
    isplitl [Htk]; · iexact Htk
    iexact Hcp

/-- The step taken once for all devices. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => make m c).trans (bigSep_fupd _ _)).trans (BI.fupd_mono (regroup m))

/-! ## The credit of what is owed at the start -/

theorem bar_inj {a b : Dev nD} (h : barCell a = barCell b) : a = b := congrArg (fun g : GSem nD τ sig => g.1.1) h
theorem recv_inj {a b : Dev nD} {k : Fin 7} (h : recvCell a k = recvCell b k) : a = b := congrArg (fun g : GSem nD τ sig => g.1.1) h

/-- Over all devices, one owes the `k`-th unit of a cell. -/
theorem sum_one (cell : Dev nD → GSem nD τ sig) (hinj : ∀ a b, cell a = cell b → a = b) (k : Fin 7) (a : ℕ) (c : Dev nD) :
    ∑ d : Dev nD, (tallyAt (cell (pl d k)) () a : CellTallies nD τ sig Unit) (cell c) () = a := by
  rw [Finset.sum_eq_single (mi c k)]
  · rw [pl_mi, tallyAt_apply, if_pos ⟨rfl, rfl⟩]
  · intro d _ hd
    rw [tallyAt_apply, if_neg fun h => hd (by rw [← hinj _ _ h.1.symm, mi_pl])]
  · intro h; exact absurd (Finset.mem_univ _) h

theorem cred_recv (c : Dev nD) (k : Fin 7) :
    (Pipeline.launchCred (fun d => tallyAt (recvCell (pl d k) k) () N) c : sProp 𝕄) ⊢ cred (tallyAt (recvCell c k) () N) := by
  refine (Pipeline.launchCred_elim _ c (.dma (recvS k))).trans (Entails.of_eq (congrArg cred ?_))
  unfold tallyAt; refine congrArg _ (Finsupp.ext fun u => ?_); cases u
  rw [Pipeline.launchCredit_owing, Finsupp.single_eq_same]
  exact sum_one (fun c => recvCell c k) (fun _ _ h => recv_inj h) k N c

theorem cred_bar (c : Dev nD) : (Pipeline.launchCred owedBar c : sProp 𝕄) ⊢ cred (tallyAt (barCell c) () 7) := by
  refine (Pipeline.launchCred_elim _ c (.reg barS)).trans (Entails.of_eq (congrArg cred ?_))
  unfold tallyAt; refine congrArg _ (Finsupp.ext fun u => ?_); cases u
  rw [Pipeline.launchCredit_owing, Finsupp.single_eq_same]
  unfold owedBar
  rw [Finset.sum_congr rfl fun d _ => by rw [Finset.sum_apply, Finsupp.finset_sum_apply], Finset.sum_comm,
    Finset.sum_congr rfl fun k _ => sum_one barCell (fun _ _ h => bar_inj h) k 1 c]
  rfl

theorem creds (c : Dev nD) : (Pipeline.launchCred owed c : sProp 𝕄)
    ⊢ iprop(cred (tallyAt (barCell c) () 7) ∗ bigSep Finset.univ fun k : Fin 7 => cred (tallyAt (recvCell c k) () N)) := by
  rw [show (owed : Dev nD → CellTallies nD τ sig Unit) = fun d => owedArr d + owedBar d from rfl, Pipeline.launchCred_add,
    show (owedArr : Dev nD → CellTallies nD τ sig Unit) = fun d => ∑ k ∈ Finset.univ, (fun (k : Fin 7) d => tallyAt (recvCell (pl d k) k) () N) k d from rfl,
    Pipeline.launchCred_sum]
  iintro ⟨Hr, Hb⟩
  isplitl [Hb]
  · iapply (cred_bar c); iexact Hb
  · iapply (show (bigSep Finset.univ fun k : Fin 7 => Pipeline.launchCred (fun d => tallyAt (recvCell (pl d k) k) () N) c : sProp 𝕄)
      ⊢ bigSep Finset.univ fun k : Fin 7 => cred (tallyAt (recvCell c k) () N) from bigSep_mono fun k _ => cred_recv c k)
    iexact Hr

end Cert.Exchange

end
-- ==== Proof.Launch.lean ====
/-
  The eight devices launched together: the run of the program, its result and its final counters.
-/
module

public import proofs.«01_k».proof.Proof.Deal
public import Idealize.ShloMosaic.Lib.Pipeline.CollectiveSegs
public import Idealize.ShloMosaic.Lib.Quiescent

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-- What the launch's funds pay for: the pipeline's rounds and the exchange's. -/
theorem fund : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX := (show BI.own (embR (initOf cells duties, (1 : Counters))) ⊢ BI.own (ER (F := F) (initOf cells duties)) from fun _ h => h) $$ HX
  imod (fund_cells m) $$ HX with HG
  imodintro
  isplitl [HP] <;> iassumption

theorem start_intro (c : Dev nD) :
    iprop(Pipeline.unscopedRestP Pipeline.Prefetch.none cfg0.spec c (fun b => m ((c : Thread nD τ).loc b)) ∗ levAts L lv
        ∗ Pipeline.launchCred owed c ∗ prngReg c (ρ c) ∗ G' m c)
      ⊢ |={Set.univ}=> iprop(start m c ∗ emp) := by
  rw [Pipeline.unscopedRestP_none, unscopedRest0_eq]
  iintro ⟨⟨Hx, Hv⟩, Hlev, Hcr, -, HG⟩
  ihave Hc := (creds (F := F) c) $$ Hcr
  icases Hc with ⟨Hb, Hr⟩
  imodintro
  unfold start
  isplitl
  · isplitl [HG]; · iexact HG
    isplitl [Hb]; · iexact Hb
    isplitl [Hr]; · iexact Hr
    isplitl [Hlev]; · iexact Hlev
    isplitl [Hx]; · iexact Hx
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What is read off the final memory for device `c`. -/
def held (c : Dev nD) : sProp 𝕄 :=
  iprop(unscopedSems0 c ∗ (((c : Thread nD τ).loc main_arg0) ↦{fullShare} m ((c : Thread nD τ).loc main_arg0))
    ∗ (((c : Thread nD τ).loc main_v1) ↦{fullShare} resultOf m c))

theorem phi1_exit (c : Dev nD) :
    (dats m ρ 0 c).Φ (Fin.last cfg0.N) ⊢ iprop(held m c ∗ Pipeline.ownSems0 osem c ∗ Pipeline.scopedRest cfg0.spec c) := by
  rw [show (dats m ρ 0 c).Φ (Fin.last cfg0.N) = Φ₁ m c from rfl, scopedRest0_eq, ownSems0_eq]
  unfold held
  rw [unscopedSems0_eq]
  unfold Φ₁ scratch semsZero
  iintro ⟨⟨Hb, Hi, Ho, Hs, Hr⟩, ⟨Hx, Hv⟩, Hscr⟩
  isplitl [Hb Hx Hv]
  · isplitl [Hb]; · iexact Hb
    isplitl [Hx]; · iexact Hx
    iexact Hv
  isplitl [Hi Ho Hs Hr]
  · isplitl [Hi Ho]
    · isplitl [Hi]; · iexact Hi
      iexact Ho
    isplitl [Hs]; · iexact Hs
    iexact Hr
  iexact Hscr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_zero_all c _ (by fin_cases w <;> fin_cases s <;> decide)
    · rw [show (dats m ρ 0 c).owed ⟨_ + 1, ht⟩ = 0 from rfl, MayWait_zero]
      iintro -; iempintro

/-- What holds of device `c`'s memory and counters at the end. -/
def readOff (c : Dev nD) (s : MemSt nD τ sig (Elt F)) : Prop :=
  (s.mem ((c : Thread nD τ).loc main_arg0) = m ((c : Thread nD τ).loc main_arg0) ∧ s.mem ((c : Thread nD τ).loc main_v1) = resultOf m c)
    ∧ ∀ sm : SemLoc sig, sm.isScoped .tc = false → s.sem ((c.tc : Thread nD τ), sm) = 0

theorem read_held (c : Dev nD) (s' : Phys nD τ sig (Elt F)) : iprop(held m c ∗ emp ∗ SI s') ⊢ |={Set.univ}=> iprop(⌜readOff m c s'.mem⌝ ∗ SI s' : sProp 𝕄) := by
  unfold held
  iintro ⟨⟨Hu, Hx, Hv⟩, -, HSI⟩
  icombine HSI Hx gives %hx
  icombine HSI Hv gives %hv
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ hx, Buf.eq_of_forall_mem_univ hv⟩, hs⟩
  · iexact HSI

/-- The state the run ends in: the staged operands and `x` unchanged, the result computed, every counter at zero. -/
def Ends : PUnit × MemSt nD τ sig (Elt F) → Prop := fun r =>
  (∀ c : Dev nD, (∀ w : Fin cfg0.W, r.2.mem ((cfg0.win w).arr.view.loc (c : Thread nD τ)) = (dats m ρ 0 c).arrAt w cfg0.N)
    ∧ r.2.mem ((c : Thread nD τ).loc main_arg0) = m ((c : Thread nD τ).loc main_arg0) ∧ r.2.mem ((c : Thread nD τ).loc main_v1) = resultOf m c)
  ∧ r.2.sem = fun _ => 0

theorem run_region : θ_run defs (onTc (τ := τ) (main (F := F))) (s₀ m ρ) (Ends m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := owed) (howed₀ := fun _ => rfl) (howedN := fun _ => rfl)
    (L := L) (lv := lv) (hL := L_of_ne) (hwaits := waits m ρ)
    (G := G m) (G' := G' m) (u₀ := u₀) (hu₀ := fund m) (hglob := glob m)
    (hA := fun _ _ => rfl) (hpf := fun _ k => k.elim0)
    (X := start m) (Y := held m) (Z := fun _ => iprop(emp))
    (hX := start_intro m ρ) (hin := phi0_intro m ρ) (hout := phi1_exit m ρ)
    (QY := readOff m) (hY := read_held m)
    (hQ := fun _ h hs => ⟨fun c => ⟨(h c).1, (h c).2.2.1⟩, sem_eq_zero hs fun c => (h c).2.2.2⟩)

/-- The run in the arrays' own terms. -/
theorem run_main : θ_run defs (onTc (τ := τ) (main (F := F))) ⟨m, fun _ => 0, ρ⟩ (fun r =>
    (∀ c : Dev nD, r.2.mem ((c.tc : Thread nD τ).loc main_v1) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c => ⟨(h.1 c).2.2, (h.1 c).2.1,
      ((h.1 c).1 0).trans ((dats m ρ 0 c).arrAt_in 0 rfl _),
      ((h.1 c).1 1).trans ((dats m ρ 0 c).arrAt_in 1 rfl _),
      ((h.1 c).1 2).trans ((dats m ρ 0 c).arrAt_in 2 rfl _)⟩, h.2⟩) (run_region m ρ)

/-! The staged operands are the whole arrays. -/

theorem tIn_eq (c : Dev nD) : tIn m c = m ((c.tc : Thread nD τ).loc main_arg1) := by
  funext i
  refine congrArg (m ((c.tc : Thread nD τ).loc main_arg1)) (funext fun a => Fin.ext ?_)
  fin_cases a
  · show 0 * 2 + 1 * (i 0).val = (i 0).val
    omega
  · show 0 * 128 + 1 * (i 1).val = (i 1).val
    omega

theorem wcIn_eq (c : Dev nD) : wcIn m c = m ((c.tc : Thread nD τ).loc main_arg2) := by
  funext i
  refine congrArg (m ((c.tc : Thread nD τ).loc main_arg2)) (funext fun a => Fin.ext ?_)
  fin_cases a
  · show 0 * 128 + 1 * (i 0).val = (i 0).val
    omega
  · show 0 * 512 + 1 * (i 1).val = (i 1).val
    omega

theorem wsIn_eq (c : Dev nD) : wsIn m c = m ((c.tc : Thread nD τ).loc main_arg3) := by
  funext i
  refine congrArg (m ((c.tc : Thread nD τ).loc main_arg3)) (funext fun a => Fin.ext ?_)
  fin_cases a
  · show 0 * 128 + 1 * (i 0).val = (i 0).val
    omega
  · show 0 * 512 + 1 * (i 1).val = (i 1).val
    omega

end Cert.Exchange

end
-- ==== Proof.Variance.lean ====
/-
  The one identity between the two programs that needs finite entries: over the reals the mean of the squares less the squared
  mean is the mean of the squared distances from the mean, and multiplying by the reciprocal of a root of a positive number is
  dividing by the root.
-/
module

public import Idealize.ShloMosaic.PureOps.Ideal.Laws
public import Idealize.ShloMosaic.Lib.Pointwise.Sums

@[expose] public section

noncomputable section

namespace Cert.Exchange

open Idealize.ShloMosaic
open scoped BigOperators

/-- The number of channels and the term under the root, as extended reals. -/
abbrev channels : EReal := Ideal.ofBits .f32 0x45800000#32
abbrev eps : EReal := Ideal.ofBits .f32 0x3727C5AC#32

theorem channels_eq : channels = ((4096 : ℝ) : EReal) := by
  simp [channels, Ideal.ofBits, Ideal.ieee, -EReal.coe_mul]; norm_num

theorem eps_pos : ∃ ε : ℝ, 0 < ε ∧ eps = (ε : EReal) := by
  refine ⟨10995116 / 2 ^ 40, by norm_num, ?_⟩
  simp [eps, Ideal.ofBits, Ideal.ieee, -EReal.coe_mul]
  norm_num

/-- A finite sum of reals is the same sum as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division by a real that is not zero. -/
theorem div_coe (a : ℝ) {n : ℝ} (hn : n ≠ 0) : Ideal.div (a : EReal) (n : EReal) = ((a / n : ℝ) : EReal) := by
  unfold Ideal.div
  rw [if_neg (by exact_mod_cast hn), ← EReal.coe_inv, ← EReal.coe_mul, div_eq_mul_inv]

/-- The product with the reciprocal root is the quotient by the root. -/
theorem mul_rsqrt (a : ℝ) {v : ℝ} (hv : 0 < v) : (a : EReal) * Ideal.rsqrt (v : EReal) = Ideal.div (a : EReal) (Ideal.sqrt (v : EReal)) := by
  have hr : Ideal.rsqrt (v : EReal) = (((Real.sqrt v)⁻¹ : ℝ) : EReal) := by
    show (if v < 0 then ⊥ else if v = 0 then ⊤ else (((Real.sqrt v)⁻¹ : ℝ) : EReal)) = _
    rw [if_neg (not_lt.mpr hv.le), if_neg hv.ne']
  have hs : Ideal.sqrt (v : EReal) = ((Real.sqrt v : ℝ) : EReal) := by
    show (if v < 0 then ⊥ else ((Real.sqrt v : ℝ) : EReal)) = _
    rw [if_neg (not_lt.mpr hv.le)]
  rw [hr, hs, div_coe a (Real.sqrt_pos.mpr hv).ne', ← EReal.coe_mul, div_eq_mul_inv]

section Real
variable {n : ℕ} (x : Fin n → ℝ)

/-- The mean square less the squared mean is the mean squared distance from the mean. -/
theorem variance (hn : (n : ℝ) ≠ 0) :
    (∑ k, x k * x k) / n - (∑ k, x k) / n * ((∑ k, x k) / n) = (∑ k, (x k - (∑ j, x j) / n) * (x k - (∑ j, x j) / n)) / n := by
  have e : ∑ k, (x k - (∑ j, x j) / n) * (x k - (∑ j, x j) / n)
      = ∑ k, x k * x k - 2 * ((∑ j, x j) / n) * ∑ k, x k + n * ((∑ j, x j) / n * ((∑ j, x j) / n)) := by
    rw [Finset.mul_sum, ← Finset.sum_sub_distrib]
    rw [show (n : ℝ) * ((∑ j, x j) / n * ((∑ j, x j) / n)) = ∑ _k : Fin n, ((∑ j, x j) / n * ((∑ j, x j) / n)) by simp]
    rw [← Finset.sum_add_distrib]
    exact Finset.sum_congr rfl fun k _ => by ring
  rw [e]; field_simp; ring

/-- Normalising one row in the two ways, on reals: with the reciprocal root of the mean square less the squared mean, and by
    dividing by the root of the mean squared distance. -/
theorem normalise (hn : (n : ℝ) ≠ 0) {ε : ℝ} (hε : 0 < ε) (k : Fin n) :
    ((x k : EReal) - Ideal.div (∑ j, (x j : EReal)) (n : ℝ))
      * Ideal.rsqrt (Ideal.div (∑ j, (x j : EReal) * (x j : EReal)) (n : ℝ)
          - Ideal.div (∑ j, (x j : EReal)) (n : ℝ) * Ideal.div (∑ j, (x j : EReal)) (n : ℝ) + (ε : EReal))
    = Ideal.div ((x k : EReal) - Ideal.div (∑ j, (x j : EReal)) (n : ℝ))
        (Ideal.sqrt (Ideal.div (∑ i, ((x i : EReal) - Ideal.div (∑ j, (x j : EReal)) (n : ℝ))
          * ((x i : EReal) - Ideal.div (∑ j, (x j : EReal)) (n : ℝ))) (n : ℝ) + (ε : EReal))) := by
  have hm : Ideal.div (∑ j, (x j : EReal)) (n : ℝ) = (((∑ j, x j) / n : ℝ) : EReal) := by
    rw [← coe_sum, div_coe _ hn]
  have hq : Ideal.div (∑ j, (x j : EReal) * (x j : EReal)) (n : ℝ) = (((∑ j, x j * x j) / n : ℝ) : EReal) := by
    rw [show (∑ j, (x j : EReal) * (x j : EReal)) = ((∑ j, x j * x j : ℝ) : EReal) by
      rw [coe_sum]; exact Finset.sum_congr rfl fun j _ => (EReal.coe_mul _ _).symm, div_coe _ hn]
  have hv : Ideal.div (∑ i, ((x i : EReal) - (((∑ j, x j) / n : ℝ) : EReal)) * ((x i : EReal) - (((∑ j, x j) / n : ℝ) : EReal))) (n : ℝ)
      = (((∑ i, (x i - (∑ j, x j) / n) * (x i - (∑ j, x j) / n)) / n : ℝ) : EReal) := by
    rw [show (∑ i, ((x i : EReal) - (((∑ j, x j) / n : ℝ) : EReal)) * ((x i : EReal) - (((∑ j, x j) / n : ℝ) : EReal)))
        = ((∑ i, (x i - (∑ j, x j) / n) * (x i - (∑ j, x j) / n) : ℝ) : EReal) by
      rw [coe_sum]; exact Finset.sum_congr rfl fun j _ => by rw [EReal.coe_mul, EReal.coe_sub], div_coe _ hn]
  have hpos : 0 < (∑ i, (x i - (∑ j, x j) / n) * (x i - (∑ j, x j) / n)) / n + ε :=
    add_pos_of_nonneg_of_pos (div_nonneg (Finset.sum_nonneg fun i _ => mul_self_nonneg _) (Nat.cast_nonneg n)) hε
  rw [hm, hq, hv, ← EReal.coe_mul, ← EReal.coe_sub, ← EReal.coe_sub, ← EReal.coe_add, ← EReal.coe_add, variance x hn]
  exact mul_rsqrt _ hpos

end Real

end Cert.Exchange

end
-- ==== Proof.Entries.lean ====
/-
  The kernel's vector expressions at the ideal values, read at one entry: sums over the channels of a chunk, totals over the eight
  slots of the table, the mean, the reciprocal root, the products with the weights, and one entry of the output.
-/
module

public import proofs.«01_k».proof.Proof.Output
public import proofs.«01_k».proof.Proof.Variance
public import Idealize.ShloMosaic.Lib.Pointwise

@[expose] public section

noncomputable section

namespace Cert.Exchange

open Cert.KernelIdeal Cert.KernelIdeal.Gen Idealize.ShloMosaic
open scoped BigOperators

section Entries
variable (x : FVec Ideal S2x512x512 .f32) (tab : FVec Ideal S8x4x4096 .f32) (t : FVec Ideal S2x128 .f32) (w : FVec Ideal S128x512 .f32)
  (b : Fin 2)

theorem pay4_apply (s : Fin 512) : k0_pay4 (F := Ideal) x (ix3 0 b s) = ∑ l : Fin 512, x (ix3 b s l) := by
  pointwise [k0_pay4]

theorem pay5_apply (s : Fin 512) : k0_pay5 (F := Ideal) x (ix3 0 b s) = ∑ l : Fin 512, x (ix3 b s l) * x (ix3 b s l) := by
  pointwise [k0_pay5]

theorem pay23_apply (s : Fin 4096) : k0_pay23 (F := Ideal) tab (ix2 b s) = Ideal.div (∑ d : Fin 8, tab (ix3 d ⟨b.val, by omega⟩ s)) channels := by
  pointwise [k0_pay23, k0_pay22]

theorem pay24_apply (s : Fin 4096) : k0_pay24 (F := Ideal) tab (ix2 b s) =
    Ideal.rsqrt (Ideal.div (∑ d : Fin 8, tab (ix3 d ⟨2 + b.val, by omega⟩ s)) channels - k0_pay23 (F := Ideal) tab (ix2 b s) * k0_pay23 (F := Ideal) tab (ix2 b s) + eps) := by
  pointwise [k0_pay24, k0_pay22]

theorem pay2_apply (l : Fin 512) : k0_pay2 (F := Ideal) t w (ix2 b l) = ∑ k : Fin 128, t (ix2 b k) * w (ix2 k l) := by
  pointwise [k0_pay2, k0_pay1]

theorem pay3_apply (l : Fin 512) : k0_pay3 (F := Ideal) t w (ix2 b l) = ∑ k : Fin 128, t (ix2 b k) * w (ix2 k l) := by
  pointwise [k0_pay3, k0_pay1]

theorem pay25_apply (v : FVec Ideal S2x512 .f32) (l : Fin 512) : k0_pay25 (F := Ideal) v (ix2 b l) = 1 + v (ix2 b l) := by
  pointwise [k0_pay25]

theorem outOf_apply (j : Fin 8) (mean root : FVec Ideal S2x4096 .f32) (gain shift : FVec Ideal S2x512 .f32) (s l : Fin 512) :
    outOf (F := Ideal) j mean root gain shift x (ix3 b s l) =
      (x (ix3 b s l) - mean (ix2 b ⟨512 * j.val + s.val, by omega⟩)) * root (ix2 b ⟨512 * j.val + s.val, by omega⟩) * gain (ix2 b l)
        + shift (ix2 b l) := by
  pointwise [outOf]

end Entries

end Cert.Exchange

end
-- ==== Proof.Rows.lean ====
/-
  One entry of a device's result, from the whole rows of `x` as the eight devices hold them: the table's entries are sums over the
  channels of one device, the mean and the root come of the totals over the devices.
-/
module

public import proofs.«01_k».proof.Proof.Entries

@[expose] public section

noncomputable section

namespace Cert.Exchange

open Cert.KernelIdeal Cert.KernelIdeal.Gen Idealize.ShloMosaic Idealize.ShloMosaic.TcCoe
open scoped BigOperators

variable (m : (ℓ : Loc nD τ sig) → Buf (Elt Ideal) ℓ)

/-- Device `d`'s entry of `x` at batch `b`, position `s` and channel `l` of its block. -/
def xAt (d : Fin 8) (b : Fin 2) (s : Fin 4096) (l : Fin 512) : EReal := xOf m d (ix3 b s l)

/-- A chunk's entry is the entry of `x` at the chunk's row. -/
theorem chunk_apply (d : Fin 8) (b : Fin 2) (s : Fin 4096) (l : Fin 512) :
    chunk m d (chunkOf s.val) (ix3 b ⟨s.val % 512, Nat.mod_lt _ (by decide)⟩ l) = xAt m d b s l := by
  show xOf m d ((rowsR (chunkOf s.val)).emb _) = _
  refine congrArg (xOf m d) (funext fun a => Fin.ext ?_)
  have hs := s.isLt
  match a with
  | 0 => show 0 + 1 * b.val = b.val; omega
  | 1 => show 512 * (s.val / 512 % 8) + 1 * (s.val % 512) = s.val; omega
  | 2 => show 0 + 1 * l.val = l.val; omega

theorem inWin_apply (d : Fin 8) (r : Fin 4) (s : Fin 4096) :
    inWin (ix3 d r s) = ix3 0 ⟨r.val % 2, Nat.mod_lt _ (by decide)⟩ ⟨s.val % 512, Nat.mod_lt _ (by decide)⟩ := funext fun a => by
  match a with
  | 0 => rfl
  | 1 => rfl
  | 2 => rfl

/-- Rows 0 and 1 of the table are the sums over a device's channels, -/
theorem stats_sum (d : Fin 8) (b : Fin 2) (s : Fin 4096) :
    stats m (ix3 d ⟨b.val, by omega⟩ s) = ∑ l : Fin 512, xAt m d b s l := by
  have hb := b.isLt
  have e : (⟨b.val % 2, Nat.mod_lt _ (by decide)⟩ : Fin 2) = b := Fin.ext (by show b.val % 2 = b.val; omega)
  show (if b.val < 2 then k0_pay4 (chunk m d (chunkOf s.val)) (inWin (ix3 d ⟨b.val, by omega⟩ s)) else _) = _
  rw [if_pos hb, inWin_apply, pay4_apply]
  refine Finset.sum_congr rfl fun l _ => ?_
  rw [e]; exact chunk_apply m d b s l

/-- rows 2 and 3 the sums of the squares. -/
theorem stats_square (d : Fin 8) (b : Fin 2) (s : Fin 4096) :
    stats m (ix3 d ⟨2 + b.val, by omega⟩ s) = ∑ l : Fin 512, xAt m d b s l * xAt m d b s l := by
  have hb := b.isLt
  have e : (⟨(2 + b.val) % 2, Nat.mod_lt _ (by decide)⟩ : Fin 2) = b := Fin.ext (by show (2 + b.val) % 2 = b.val; omega)
  show (if 2 + b.val < 2 then _ else k0_pay5 (chunk m d (chunkOf s.val)) (inWin (ix3 d ⟨2 + b.val, by omega⟩ s))) = _
  rw [if_neg (by omega), inWin_apply, pay5_apply]
  refine Finset.sum_congr rfl fun l _ => ?_
  rw [e]; exact congrArg₂ (· * ·) (chunk_apply m d b s l) (chunk_apply m d b s l)

/-- The mean of a row over all channels of all devices. -/
def meanAt (b : Fin 2) (s : Fin 4096) : EReal := Ideal.div (∑ d : Fin 8, ∑ l : Fin 512, xAt m d b s l) channels

/-- The reciprocal of the root of the mean square less the squared mean, plus the small term. -/
def rootAt (b : Fin 2) (s : Fin 4096) : EReal :=
  Ideal.rsqrt (Ideal.div (∑ d : Fin 8, ∑ l : Fin 512, xAt m d b s l * xAt m d b s l) channels - meanAt m b s * meanAt m b s + eps)

theorem mean_apply (b : Fin 2) (s : Fin 4096) : k0_pay23 (F := Ideal) (stats m) (ix2 b s) = meanAt m b s := by
  rw [pay23_apply]
  exact congrArg (Ideal.div · channels) (Finset.sum_congr rfl fun d _ => stats_sum m d b s)

theorem root_apply (b : Fin 2) (s : Fin 4096) : k0_pay24 (F := Ideal) (stats m) (ix2 b s) = rootAt m b s := by
  rw [pay24_apply, mean_apply]
  exact congrArg (fun z => Ideal.rsqrt (Ideal.div z channels - meanAt m b s * meanAt m b s + eps))
    (Finset.sum_congr rfl fun d _ => stats_square m d b s)

/-- One entry of device `c`'s result, from `t` and its blocks of the two weights. -/
theorem outAll_apply (c : Fin 8) (t : FVec Ideal S2x128 .f32) (wc ws : FVec Ideal S128x512 .f32) (b : Fin 2) (s : Fin 4096) (l : Fin 512) :
    outAll m c t wc ws (ix3 b s l) =
      (xAt m c b s l - meanAt m b s) * rootAt m b s * (1 + ∑ k : Fin 128, t (ix2 b k) * wc (ix2 k l))
        + ∑ k : Fin 128, t (ix2 b k) * ws (ix2 k l) := by
  have hs := s.isLt
  have hi : inChunk (ix3 b s l) = ix3 b ⟨s.val % 512, Nat.mod_lt _ (by decide)⟩ l := funext fun a => by
    match a with
    | 0 => rfl
    | 1 => rfl
    | 2 => rfl
  have e : (⟨512 * (chunkOf s.val).val + s.val % 512, by show 512 * (s.val / 512 % 8) + s.val % 512 < 4096; omega⟩ : Fin 4096) = s :=
    Fin.ext (by show 512 * (s.val / 512 % 8) + s.val % 512 = s.val; omega)
  show outChunk m c t wc ws (chunkOf s.val) (inChunk (ix3 b s l)) = _
  rw [hi]; unfold outChunk
  rw [outOf_apply]
  simp only [e]
  rw [mean_apply, root_apply, pay25_apply, pay2_apply, pay3_apply]
  exact congrArg (fun z => (z - meanAt m b s) * rootAt m b s * _ + _) (chunk_apply m c b s l)

end Cert.Exchange

end
-- ==== Proof.Reference.lean ====
/-
  The reference's result read at one entry, at the ideal values. Its variance comes with a guard against a division by no more
  than zero, which a row of 4096 channels passes.
-/
module

public import proofs.«01_k».proof.Proof.Gen.ReferenceIdeal
public import proofs.«01_k».proof.Proof.Variance
public import Idealize.ShloMosaic.Lib.Pointwise
public import Idealize.ShloMosaic.Lib.KernelVsHost

@[expose] public section

noncomputable section

namespace Cert.Exchange.Whole

open Cert.ReferenceIdeal Cert.ReferenceIdeal.Gen Idealize.ShloMosaic
open scoped BigOperators

section Terms
variable (x : FVec Ideal S2x4096x4096 .f32) (t : FVec Ideal S2x128 .f32) (wc ws : FVec Ideal S128x4096 .f32)

/-- One number per row, -/
def scalarPerRow (v : FVec Ideal S_ .f32) : FVec Ideal S2x4096x1 .f32 := broadcastInDim S2x4096x1 ![] bcast_S_S2x4096x1 v
/-- the sums of the rows, -/
def sums (v : FVec Ideal S2x4096x4096 .f32) : FVec Ideal S2x4096x1 .f32 :=
  broadcastInDim S2x4096x1 ![0, 1] bcast_S2x4096_S2x4096x1_0_1
    (Host.reduceAdd v (constant S_ .f32 0x00000000#32) reducesTo_S2x4096x4096_S2x4096_d2 h_S_)
/-- a number per row at every channel of it, -/
def alongRows (v : FVec Ideal S2x4096x1 .f32) : FVec Ideal S2x4096x4096 .f32 :=
  broadcastInDim S2x4096x4096 ![0, 1, 2] bcast_S2x4096x1_S2x4096x4096_0_1_2 v
/-- a number per batch and channel at every position. -/
def alongPositions (v : FVec Ideal S2x1x4096 .f32) : FVec Ideal S2x4096x4096 .f32 :=
  broadcastInDim S2x4096x4096 ![0, 1, 2] bcast_S2x1x4096_S2x4096x4096_0_1_2 v

/-- The means of the rows. -/
def means : FVec Ideal S2x4096x1 .f32 := Host.divf (sums x) (scalarPerRow (constant S_ .f32 0x45800000#32))
/-- Each entry less its row's mean. -/
def centred : FVec Ideal S2x4096x4096 .f32 := subf x (alongRows (means x))
/-- The divisor of the variance: the count less a correction of zero. -/
def count : FVec Ideal S_ .f32 := subf (constant S_ .f32 0x45800000#32) (sitofp .f32 (constantI S_ 32 0#32))
/-- The variances of the rows, guarded. -/
def variances : FVec Ideal S2x4096x1 .f32 :=
  select (broadcastInDim S2x4096x1 ![] bcast_S_S2x4096x1 (cmpf .ogt count (constant S_ .f32 0x00000000#32)))
    (Host.divf (sums (mulf (centred x) (centred x))) (scalarPerRow count)) (scalarPerRow (constant S_ .f32 0x7FC00000#32))
/-- A product of `t` with a weight, with an axis for the positions. -/
def product (w : FVec Ideal S128x4096 .f32) : FVec Ideal S2x1x4096 .f32 :=
  broadcastInDim S2x1x4096 ![0, 2] bcast_S2x4096_S2x1x4096_0_2 (Host.dotGeneral dot_S2x128_S128x4096_S2x4096_1_0_0_1_n_n none t w)

/-- The reference's result. -/
def whole : FVec Ideal S2x4096x4096 .bf16 :=
  truncf .bf16 (addf (mulf (Host.divf (centred x) (alongRows (Host.sqrt (addf (variances x) (scalarPerRow (constant S_ .f32 0x3727C5AC#32))))))
    (alongPositions (addf (broadcastInDim S2x1x4096 ![] bcast_S_S2x1x4096 (constant S_ .f32 0x3F800000#32)) (product t wc))))
    (alongPositions (product t ws))) bitsLt_bf16_f32

variable (b : Fin 2) (s : Fin 4096)

/-- The mean of row `(b, s)`, -/
def meanAt : EReal := Ideal.div (∑ k : Fin 4096, x (ix3 b s k)) channels
/-- and its variance. -/
def varAt : EReal := Ideal.div (∑ k : Fin 4096, (x (ix3 b s k) - meanAt x b s) * (x (ix3 b s k) - meanAt x b s)) channels

theorem means_apply : means x (ix3 b s 0) = meanAt x b s := by
  pointwise [means, sums, scalarPerRow, meanAt]

theorem centred_apply (k : Fin 4096) : centred x (ix3 b s k) = x (ix3 b s k) - meanAt x b s := by
  pointwise [centred, alongRows, means, sums, scalarPerRow, meanAt]

theorem count_apply (i : S_.Idx) : count i = channels := by
  pointwise [count]
  show channels - Scalar.sitofp (F := Ideal) .f32 0#32 = channels
  rw [sitofp_zero, sub_zero]

theorem variances_apply : variances x (ix3 b s 0) = varAt x b s := by
  have h : cmpf .ogt count (constant S_ .f32 0x00000000#32) = fun _ => 1#1 := funext fun i => by
    show Ideal.cmp .ogt (count i) (Ideal.ofBits .f32 0x00000000#32) = 1#1
    rw [count_apply, channels_eq, Ideal.ofBits_zero_f32]
    simp [Ideal.cmp]
  unfold variances
  rw [h]
  show Ideal.div (sums (mulf (centred x) (centred x)) (ix3 b s 0)) (scalarPerRow count (ix3 b s 0)) = _
  rw [show scalarPerRow count (ix3 b s 0) = channels from count_apply _]
  unfold varAt
  refine congrArg (Ideal.div · channels) ?_
  have e : sums (mulf (centred x) (centred x)) (ix3 b s 0) = ∑ k : Fin 4096, centred x (ix3 b s k) * centred x (ix3 b s k) := by
    pointwise [sums]
  rw [e]
  exact Finset.sum_congr rfl fun k _ => by rw [centred_apply]

theorem product_apply (w : FVec Ideal S128x4096 .f32) (k : Fin 4096) :
    product t w (ix3 b 0 k) = ∑ j : Fin 128, t (ix2 b j) * w (ix2 j k) := by
  pointwise [product]

/-- One entry of the reference's result. -/
theorem whole_apply (k : Fin 4096) :
    whole x t wc ws (ix3 b s k) =
      Ideal.div (x (ix3 b s k) - meanAt x b s) (Ideal.sqrt (varAt x b s + eps)) * (1 + ∑ j : Fin 128, t (ix2 b j) * wc (ix2 j k))
        + ∑ j : Fin 128, t (ix2 b j) * ws (ix2 j k) := by
  have e : whole x t wc ws (ix3 b s k) =
      Ideal.div (centred x (ix3 b s k)) (Ideal.sqrt (variances x (ix3 b s 0) + eps)) * (1 + product t wc (ix3 b 0 k)) + product t ws (ix3 b 0 k) := by
    pointwise [whole, alongRows, alongPositions, scalarPerRow]
  rw [e, centred_apply, variances_apply, product_apply, product_apply]

end Terms

end Cert.Exchange.Whole

end
-- ==== Proof.Value.lean ====
/-
  The eight results are the eight blocks of the reference's result, when `x` has no infinity: a row's 4096 channels are eight times
  512, so the kernel's mean, mean square and products are the reference's, and the two ways to normalise the row agree.
-/
module

public import proofs.«01_k».proof.Proof.Rows
public import proofs.«01_k».proof.Proof.Reference
public import proofs.«01_k».proof.Proof.Variance
public import Idealize.ShloMosaic.Lib.Layout

@[expose] public section

noncomputable section

namespace Cert.Exchange

open Cert.KernelIdeal Cert.KernelIdeal.Gen Idealize.ShloMosaic Idealize.ShloMosaic.TcCoe
open scoped BigOperators

/-- Channel `l` of device `c`'s block, among all channels. -/
def chanOf (c : Fin 8) (l : Fin 512) : Fin 4096 := ⟨c.val * 512 + l.val, by omega⟩

/-- A sum over all channels, device by device. -/
theorem sum_channels (f : Fin 4096 → EReal) : ∑ k : Fin 4096, f k = ∑ d : Fin 8, ∑ l : Fin 512, f (chanOf d l) :=
  Fin.sum_univ_tiles 8 512 rfl f

/-- Where an entry of a device's block of `x` or of the result is in the whole array, -/
theorem block3 {α : Type} (c : Fin 8) (v : Cert.ReferenceIdeal.S2x4096x4096.Idx → α) (b : Fin 2) (s : Fin 4096) (l : Fin 512) :
    Layout.block S2x4096x512 Cert.ReferenceIdeal.S2x4096x4096 2 8 c v (by decide) (ix3 b s l) = v (ix3 b s (chanOf c l)) := by
  refine congrArg v (funext fun a => Fin.ext ?_)
  match a with
  | 0 => rfl
  | 1 => rfl
  | 2 => rfl

/-- and an entry of its block of a weight. -/
theorem block2 {α : Type} (c : Fin 8) (v : Cert.ReferenceIdeal.S128x4096.Idx → α) (k : Fin 128) (l : Fin 512) :
    Layout.block S128x512 Cert.ReferenceIdeal.S128x4096 1 8 c v (by decide) (ix2 k l) = v (ix2 k (chanOf c l)) := by
  refine congrArg v (funext fun a => Fin.ext ?_)
  match a with
  | 0 => rfl
  | 1 => rfl

variable (m : (ℓ : Loc nD τ sig) → Buf (Elt Ideal) ℓ) (X : FVec Ideal Cert.ReferenceIdeal.S2x4096x4096 .f32)

section Blocks
variable (hx : ∀ (c : Fin 8) (b : Fin 2) (s : Fin 4096) (l : Fin 512), xAt m c b s l = X (ix3 b s (chanOf c l)))
include hx

theorem mean_whole (b : Fin 2) (s : Fin 4096) : meanAt m b s = Whole.meanAt X b s := by
  unfold meanAt Whole.meanAt
  rw [sum_channels]
  exact congrArg (Ideal.div · channels) (Finset.sum_congr rfl fun d _ => Finset.sum_congr rfl fun l _ => hx d b s l)

theorem root_whole (b : Fin 2) (s : Fin 4096) :
    rootAt m b s = Ideal.rsqrt (Ideal.div (∑ k : Fin 4096, X (ix3 b s k) * X (ix3 b s k)) channels
      - Whole.meanAt X b s * Whole.meanAt X b s + eps) := by
  unfold rootAt
  rw [mean_whole m X hx, sum_channels]
  refine congrArg (fun z => Ideal.rsqrt (Ideal.div z channels - _ + eps)) ?_
  exact Finset.sum_congr rfl fun d _ => Finset.sum_congr rfl fun l _ => by rw [hx]

end Blocks

/-- Rows without infinities are normalised alike. -/
theorem normalised (fin : ∀ i, X i ≠ ⊤ ∧ X i ≠ ⊥) (b : Fin 2) (s : Fin 4096) (k : Fin 4096) :
    (X (ix3 b s k) - Whole.meanAt X b s) * Ideal.rsqrt (Ideal.div (∑ k : Fin 4096, X (ix3 b s k) * X (ix3 b s k)) channels
      - Whole.meanAt X b s * Whole.meanAt X b s + eps)
    = Ideal.div (X (ix3 b s k) - Whole.meanAt X b s) (Ideal.sqrt (Whole.varAt X b s + eps)) := by
  obtain ⟨ε, hε, he⟩ := eps_pos
  have hc : channels = (((4096 : ℕ) : ℝ) : EReal) := by rw [channels_eq]; norm_num
  have real (j : Fin 4096) : X (ix3 b s j) = (((X (ix3 b s j) : EReal).toReal : ℝ) : EReal) :=
    (EReal.coe_toReal (fin _).1 (fin _).2).symm
  unfold Whole.varAt Whole.meanAt
  rw [he, hc]
  have := normalise (fun j : Fin 4096 => (X (ix3 b s j) : EReal).toReal) (by norm_num) hε k
  simp only [← real] at this
  exact this

/-- Device `c`'s result is block `c` of the reference's. -/
theorem outAll_eq_block (T : FVec Ideal S2x128 .f32) (WC WS : FVec Ideal Cert.ReferenceIdeal.S128x4096 .f32)
    (hx : ∀ c : Fin 8, xOf m c = Layout.block S2x4096x512 Cert.ReferenceIdeal.S2x4096x4096 2 8 c X)
    (fin : ∀ i, X i ≠ ⊤ ∧ X i ≠ ⊥) (c : Fin 8) :
    outAll m c T (Layout.block S128x512 Cert.ReferenceIdeal.S128x4096 1 8 c WC) (Layout.block S128x512 Cert.ReferenceIdeal.S128x4096 1 8 c WS)
      = Layout.block S2x4096x512 Cert.ReferenceIdeal.S2x4096x4096 2 8 c (Whole.whole X T WC WS) := by
  have hx' (c : Fin 8) (b : Fin 2) (s : Fin 4096) (l : Fin 512) : xAt m c b s l = X (ix3 b s (chanOf c l)) :=
    (congrFun (hx c) _).trans (block3 c X b s l)
  funext i
  obtain ⟨b, s, l, rfl⟩ : ∃ (b : Fin 2) (s : Fin 4096) (l : Fin 512), i = ix3 b s l := ⟨i 0, i 1, i 2, eq_ix3 i⟩
  refine (outAll_apply m c T _ _ b s l).trans (Eq.trans ?_ (block3 c (Whole.whole X T WC WS) b s l).symm)
  rw [Whole.whole_apply, ← normalised X fin, hx', mean_whole m X hx', root_whole m X hx']
  simp only [block2]

end Cert.Exchange

end
-- ==== Proof.Finite.lean ====
/-
  The precondition: a device's block of `x` has no infinity. Its side conditions about shapes, and what it says of an entry.
-/
module

public import proofs.«01_k».proof.Pre_x_finite_KernelIdeal
public import proofs.«01_k».proof.Pre_x_finite_ReferenceIdeal
public import Idealize.ShloMosaic.Lib.ReduceAll
public import Idealize.ShloMosaic.PureOps.Ideal.Laws

@[expose] public section

noncomputable section

namespace Cert.Exchange

open Idealize.ShloMosaic

theorem blockFacts : Cert.Pre_x_finite_KernelIdeal.Facts where
  bcast_S_S2x4096x512 := by decide
  reducesTo_S2x4096x512_S_d0_1_2 := by decide
  h_S_ := by decide

theorem wholeFacts : Cert.Pre_x_finite_ReferenceIdeal.Facts where
  bcast_S_S2x4096x4096 := by decide
  reducesTo_S2x4096x4096_S_d0_1_2 := by decide
  h_S_ := by decide

/-- An extended real whose absolute value is below the infinity is finite. -/
theorem finite_of_abs (x : EReal) (h : Ideal.cmp .olt (max x (-x)) (Ideal.ofBits .f32 0x7F800000#32) = 1#1) : x ≠ ⊤ ∧ x ≠ ⊥ := by
  have top : Ideal.ofBits .f32 0x7F800000#32 = ⊤ := by simp [Ideal.ofBits, Ideal.ieee]
  rw [top] at h
  constructor
  · rintro rfl; simp [Ideal.cmp] at h
  · rintro rfl; simp [Ideal.cmp] at h

/-- Under the precondition each entry of the block is finite. -/
theorem finite_entries [Cert.Pre_x_finite_KernelIdeal.Facts] (x : FVec Ideal Cert.Pre_x_finite_KernelIdeal.S2x4096x512 .f32) (t : FVec Ideal Cert.Pre_x_finite_KernelIdeal.S2x128 .f32)
    (wc ws : FVec Ideal Cert.Pre_x_finite_KernelIdeal.S128x512 .f32) (h : Cert.Pre_x_finite_KernelIdeal.fn (F := Ideal) x t wc ws = fun _ => 1#1)
    (i : Cert.Pre_x_finite_KernelIdeal.S2x4096x512.Idx) : x i ≠ ⊤ ∧ x i ≠ ⊥ :=
  haveI : Subsingleton Cert.Pre_x_finite_KernelIdeal.S_.Idx := ⟨fun a b => funext fun k => k.elim0⟩
  finite_of_abs (x i) (Host.reduce_andi_all _ _ _ _ (fun k => k.elim0) (congrFun h fun k => k.elim0) i)

end Cert.Exchange

end
-- ==== Proof.lean ====
/-
  The claims assembled. The run of the kernel is proved once, for any float values, in Proof/Launch.lean; the program as
  printed and its reading over the reals are one text, so both frames come from it. The reference is a list of host
  operations, run in Proof/Gen/ReferenceIdeal/Run.lean. That the eight results are the eight blocks of the reference's result
  is Proof/Value.lean.
-/
module

public import proofs.«01_k».proof.Defs
public import proofs.«01_k».proof.Proof.Gen.Kernel
public import proofs.«01_k».proof.Proof.Launch
public import proofs.«01_k».proof.Proof.Value
public import proofs.«01_k».proof.Proof.Finite
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel's frame, at any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (Cert.Exchange.run_main (F := F) m ρ)

/-- The kernel's body is one program under both names, … -/
theorem bodies_eq {F : FTy → Type} [FloatOps F] : Cert.Kernel.defs₀ (F := F) = Cert.KernelIdeal.defs₀ (F := F) := by
  funext p
  cases p
  · funext l a
    match l, a with
    | ⟨0, _⟩, (t, s) => rfl
  · rfl
  · rfl

/-- … and so is the whole. -/
theorem defs_eq {F : FTy → Type} [FloatOps F] : Cert.Kernel.defs (F := F) = Cert.KernelIdeal.defs (F := F) :=
  congrArg (Pipeline.defs Cert.Kernel.pcfgs) bodies_eq

theorem frame_kernel : Cert.quiescent_Kernel := fun m ρ _ => by
  rw [defs_eq]
  exact frame_any (F := Bits) m ρ

theorem frame_kernel_ideal : Cert.quiescent_KernelIdeal :=
  fun m ρ _ => frame_any (F := Ideal) m ρ

/-- The reference has no semaphore. -/
theorem frame_reference : Cert.quiescent_ReferenceIdeal :=
  fun m ρ _ => (θ_run Cert.ReferenceIdeal.defs _ _).mono (fun r h => ⟨fun c => (h c).2, sem_eq_zero_of_no_sems rfl r.2⟩)
    (Cert.ReferenceIdeal.Value.run (F := Ideal) m ρ)

/-- The same two frames where the precondition is assumed. -/
theorem frame_kernel_ideal_finite [Cert.Pre_x_finite_KernelIdeal.Facts] : Cert.quiescent_KernelIdeal_pre_x_finite_KernelIdeal :=
  fun m ρ _ => frame_any (F := Ideal) m ρ

theorem frame_reference_finite [Cert.Pre_x_finite_ReferenceIdeal.Facts] : Cert.quiescent_ReferenceIdeal_pre_x_finite_ReferenceIdeal :=
  fun m ρ _ => frame_reference m ρ trivial

/-- Every channel is one of a device's. -/
theorem chanOf_div (k : Fin 4096) : Cert.Exchange.chanOf ⟨k.val / 512, by omega⟩ ⟨k.val % 512, by omega⟩ = k :=
  Fin.ext (by show k.val / 512 * 512 + k.val % 512 = k.val; omega)

/-- Each device's result is its block of the reference's result. -/
theorem algebraic [Cert.Pre_x_finite_KernelIdeal.Facts] : Cert.algebraic_KernelIdeal_ReferenceIdeal_pre_x_finite_KernelIdeal := by
  intro m ρ m' ρ' hfin hargs
  refine ⟨Cert.Exchange.Whole.whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨(h.1 c).1.trans ?_, (h.1 c).2⟩) (Cert.Exchange.run_main (F := Ideal) m ρ)
    show Cert.Exchange.outAll m c (Cert.Exchange.tIn m c) (Cert.Exchange.wcIn m c) (Cert.Exchange.wsIn m c) = _
    rw [Cert.Exchange.tIn_eq, Cert.Exchange.wcIn_eq, Cert.Exchange.wsIn_eq, (hargs c).2.1, (hargs c).2.2.1, (hargs c).2.2.2]
    refine Cert.Exchange.outAll_eq_block m _ _ _ _ (fun d => (hargs d).1) (fun i => ?_) c
    obtain ⟨b, s, k, rfl⟩ : ∃ (b : Fin 2) (s : Fin 4096) (k : Fin 4096), i = ix3 b s k := ⟨i 0, i 1, i 2, eq_ix3 i⟩
    have e := Cert.Exchange.finite_entries _ _ _ _ (hfin ⟨k.val / 512, by have := k.isLt; show _ < 8; omega⟩) (ix3 b s ⟨k.val % 512, by omega⟩)
    rw [(hargs _).1] at e
    have e' := Cert.Exchange.block3 ⟨k.val / 512, by omega⟩
      (m' (((0 : Dev Cert.ReferenceIdeal.nD).tc : Thread Cert.ReferenceIdeal.nD Cert.ReferenceIdeal.τ).loc Cert.ReferenceIdeal.main_arg0)) b s ⟨k.val % 512, by omega⟩
    rw [chanOf_div] at e'
    exact e' ▸ e
  · exact (θ_run Cert.ReferenceIdeal.defs _ _).mono (fun r h => h 0) (Cert.ReferenceIdeal.Value.run (F := Ideal) m' ρ')

theorem claim : Cert.Claim := ⟨Cert.Kernel.Gen.facts, Cert.KernelIdeal.Gen.facts, Cert.ReferenceIdeal.Gen.facts,
  Cert.Exchange.blockFacts, Cert.Exchange.wholeFacts, frame_kernel, frame_kernel_ideal,
  letI := Cert.Exchange.blockFacts; frame_kernel_ideal_finite, frame_reference, letI := Cert.Exchange.wholeFacts; frame_reference_finite,
  trivial, letI := Cert.Exchange.blockFacts; algebraic⟩

end Cert.Proof

end
